-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaReferenceIdeal (m : (ℓ : Loc Cert.XaReferenceIdeal.nD Cert.XaReferenceIdeal.τ Cert.XaReferenceIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_finite [hPre_finite : Cert.Pre_finite.Facts] (m : (ℓ : Loc Cert.DaIdeal.nD Cert.DaIdeal.τ Cert.DaIdeal.sig) → Buf (Elt Ideal) ℓ) : Prop :=
  ∀ c : Dev Cert.DaIdeal.nD,
    (Cert.Pre_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2))) = (fun _ => 1#1)

def Pre_DaReferenceIdeal (m : (ℓ : Loc Cert.DaReferenceIdeal.nD Cert.DaReferenceIdeal.τ Cert.DaReferenceIdeal.sig) → Buf (Elt Ideal) ℓ) : Prop :=
  True

def Pre_DaReferenceIdeal_finite [hPre_finite : Cert.Pre_finite.Facts] (m : (ℓ : Loc Cert.DaReferenceIdeal.nD Cert.DaReferenceIdeal.τ Cert.DaReferenceIdeal.sig) → Buf (Elt Ideal) ℓ) : Prop :=
  ∀ c : Dev Cert.DaReferenceIdeal.nD,
    (Cert.Pre_finite.fn (F := Ideal) (m ((c.tc : Thread Cert.DaReferenceIdeal.nD Cert.DaReferenceIdeal.τ).loc Cert.DaReferenceIdeal.main_arg0)) (m ((c.tc : Thread Cert.DaReferenceIdeal.nD Cert.DaReferenceIdeal.τ).loc Cert.DaReferenceIdeal.main_arg1)) (m ((c.tc : Thread Cert.DaReferenceIdeal.nD Cert.DaReferenceIdeal.τ).loc Cert.DaReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ r.2.sem = fun _ => 0)

def quiescent_XaReferenceIdeal [hXaReferenceIdeal : Cert.XaReferenceIdeal.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaIdeal_pre_finite [hDaIdeal : Cert.DaIdeal.Facts] [hPre_finite : Cert.Pre_finite.Facts] : Prop :=
  ∀ (m : (ℓ : Loc Cert.DaIdeal.nD Cert.DaIdeal.τ Cert.DaIdeal.sig) → Buf (Elt Ideal) ℓ) (g : Dev Cert.DaIdeal.nD → PrngReg), Pre_DaIdeal_finite m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaReferenceIdeal [hDaReferenceIdeal : Cert.DaReferenceIdeal.Facts] : Prop :=
  ∀ (m : (ℓ : Loc Cert.DaReferenceIdeal.nD Cert.DaReferenceIdeal.τ Cert.DaReferenceIdeal.sig) → Buf (Elt Ideal) ℓ) (g : Dev Cert.DaReferenceIdeal.nD → PrngReg), Pre_DaReferenceIdeal m →
    θ_run (Cert.DaReferenceIdeal.defs (F := Ideal)) (onTc (τ := Cert.DaReferenceIdeal.τ) (Cert.DaReferenceIdeal.main (F := Ideal))) ⟨m, fun _ => 0, g⟩ (fun r => (∀ c : Dev Cert.DaReferenceIdeal.nD,
      r.2.mem ((c.tc : Thread Cert.DaReferenceIdeal.nD Cert.DaReferenceIdeal.τ).loc Cert.DaReferenceIdeal.main_arg0) = m ((c.tc : Thread Cert.DaReferenceIdeal.nD Cert.DaReferenceIdeal.τ).loc Cert.DaReferenceIdeal.main_arg0)
      ∧ r.2.mem ((c.tc : Thread Cert.DaReferenceIdeal.nD Cert.DaReferenceIdeal.τ).loc Cert.DaReferenceIdeal.main_arg1) = m ((c.tc : Thread Cert.DaReferenceIdeal.nD Cert.DaReferenceIdeal.τ).loc Cert.DaReferenceIdeal.main_arg1)
      ∧ r.2.mem ((c.tc : Thread Cert.DaReferenceIdeal.nD Cert.DaReferenceIdeal.τ).loc Cert.DaReferenceIdeal.main_arg2) = m ((c.tc : Thread Cert.DaReferenceIdeal.nD Cert.DaReferenceIdeal.τ).loc Cert.DaReferenceIdeal.main_arg2))
      ∧ r.2.sem = fun _ => 0)

def quiescent_DaReferenceIdeal_pre_finite [hDaReferenceIdeal : Cert.DaReferenceIdeal.Facts] [hPre_finite : Cert.Pre_finite.Facts] : Prop :=
  ∀ (m : (ℓ : Loc Cert.DaReferenceIdeal.nD Cert.DaReferenceIdeal.τ Cert.DaReferenceIdeal.sig) → Buf (Elt Ideal) ℓ) (g : Dev Cert.DaReferenceIdeal.nD → PrngReg), Pre_DaReferenceIdeal_finite m →
    θ_run (Cert.DaReferenceIdeal.defs (F := Ideal)) (onTc (τ := Cert.DaReferenceIdeal.τ) (Cert.DaReferenceIdeal.main (F := Ideal))) ⟨m, fun _ => 0, g⟩ (fun r => (∀ c : Dev Cert.DaReferenceIdeal.nD,
      r.2.mem ((c.tc : Thread Cert.DaReferenceIdeal.nD Cert.DaReferenceIdeal.τ).loc Cert.DaReferenceIdeal.main_arg0) = m ((c.tc : Thread Cert.DaReferenceIdeal.nD Cert.DaReferenceIdeal.τ).loc Cert.DaReferenceIdeal.main_arg0)
      ∧ r.2.mem ((c.tc : Thread Cert.DaReferenceIdeal.nD Cert.DaReferenceIdeal.τ).loc Cert.DaReferenceIdeal.main_arg1) = m ((c.tc : Thread Cert.DaReferenceIdeal.nD Cert.DaReferenceIdeal.τ).loc Cert.DaReferenceIdeal.main_arg1)
      ∧ r.2.mem ((c.tc : Thread Cert.DaReferenceIdeal.nD Cert.DaReferenceIdeal.τ).loc Cert.DaReferenceIdeal.main_arg2) = m ((c.tc : Thread Cert.DaReferenceIdeal.nD Cert.DaReferenceIdeal.τ).loc Cert.DaReferenceIdeal.main_arg2))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Xa_XaIdeal : Prop :=
  True

def algebraic_XaIdeal_XaReferenceIdeal [hXaIdeal : Cert.XaIdeal.Facts] [hXaReferenceIdeal : Cert.XaReferenceIdeal.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaReferenceIdeal.nD Cert.XaReferenceIdeal.τ Cert.XaReferenceIdeal.sig) → Buf (Elt Ideal) ℓ) (g' : Dev Cert.XaReferenceIdeal.nD → PrngReg), Pre_XaIdeal m →
    (∀ c : Dev Cert.XaIdeal.nD,
      m' ((c.tc : Thread Cert.XaReferenceIdeal.nD Cert.XaReferenceIdeal.τ).loc Cert.XaReferenceIdeal.main_arg0) = m ((c.tc : Thread Cert.XaIdeal.nD Cert.XaIdeal.τ).loc Cert.XaIdeal.main_arg0)
      ∧ m' ((c.tc : Thread Cert.XaReferenceIdeal.nD Cert.XaReferenceIdeal.τ).loc Cert.XaReferenceIdeal.main_arg1) = m ((c.tc : Thread Cert.XaIdeal.nD Cert.XaIdeal.τ).loc Cert.XaIdeal.main_arg1)
      ∧ m' ((c.tc : Thread Cert.XaReferenceIdeal.nD Cert.XaReferenceIdeal.τ).loc Cert.XaReferenceIdeal.main_arg2) = m ((c.tc : Thread Cert.XaIdeal.nD Cert.XaIdeal.τ).loc Cert.XaIdeal.main_arg2)) →
    ∃ (v0 : (c : Dev Cert.XaIdeal.nD) → Buf (Elt Ideal) ((c.tc : Thread Cert.XaIdeal.nD Cert.XaIdeal.τ).loc Cert.XaIdeal.main_v3)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v3) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ θ_run (Cert.XaReferenceIdeal.defs (F := Ideal)) (onTc (τ := Cert.XaReferenceIdeal.τ) (Cert.XaReferenceIdeal.main (F := Ideal))) ⟨m', fun _ => 0, g'⟩ (fun r => ∀ c : Dev Cert.XaReferenceIdeal.nD,
          r.2.mem ((c.tc : Thread Cert.XaReferenceIdeal.nD Cert.XaReferenceIdeal.τ).loc Cert.XaReferenceIdeal.main_v2) = v0 c
          ∧ r.2.mem ((c.tc : Thread Cert.XaReferenceIdeal.nD Cert.XaReferenceIdeal.τ).loc Cert.XaReferenceIdeal.main_arg0) = m' ((c.tc : Thread Cert.XaReferenceIdeal.nD Cert.XaReferenceIdeal.τ).loc Cert.XaReferenceIdeal.main_arg0)
          ∧ r.2.mem ((c.tc : Thread Cert.XaReferenceIdeal.nD Cert.XaReferenceIdeal.τ).loc Cert.XaReferenceIdeal.main_arg1) = m' ((c.tc : Thread Cert.XaReferenceIdeal.nD Cert.XaReferenceIdeal.τ).loc Cert.XaReferenceIdeal.main_arg1)
          ∧ r.2.mem ((c.tc : Thread Cert.XaReferenceIdeal.nD Cert.XaReferenceIdeal.τ).loc Cert.XaReferenceIdeal.main_arg2) = m' ((c.tc : Thread Cert.XaReferenceIdeal.nD Cert.XaReferenceIdeal.τ).loc Cert.XaReferenceIdeal.main_arg2))

def preserves_Da_DaIdeal : Prop :=
  True

def algebraic_DaIdeal_DaReferenceIdeal_pre_finite [hDaIdeal : Cert.DaIdeal.Facts] [hDaReferenceIdeal : Cert.DaReferenceIdeal.Facts] [hPre_finite : Cert.Pre_finite.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaReferenceIdeal.nD Cert.DaReferenceIdeal.τ Cert.DaReferenceIdeal.sig) → Buf (Elt Ideal) ℓ) (g' : Dev Cert.DaReferenceIdeal.nD → PrngReg), Pre_DaIdeal_finite m →
    (∀ c : Dev Cert.DaIdeal.nD,
      m' ((c.tc : Thread Cert.DaReferenceIdeal.nD Cert.DaReferenceIdeal.τ).loc Cert.DaReferenceIdeal.main_arg0) = m ((c.tc : Thread Cert.DaIdeal.nD Cert.DaIdeal.τ).loc Cert.DaIdeal.main_arg0)
      ∧ m' ((c.tc : Thread Cert.DaReferenceIdeal.nD Cert.DaReferenceIdeal.τ).loc Cert.DaReferenceIdeal.main_arg1) = m ((c.tc : Thread Cert.DaIdeal.nD Cert.DaIdeal.τ).loc Cert.DaIdeal.main_arg1)
      ∧ m' ((c.tc : Thread Cert.DaReferenceIdeal.nD Cert.DaReferenceIdeal.τ).loc Cert.DaReferenceIdeal.main_arg2) = m ((c.tc : Thread Cert.DaIdeal.nD Cert.DaIdeal.τ).loc Cert.DaIdeal.main_arg2)) →
    ∃ (v0 : (c : Dev Cert.DaIdeal.nD) → Buf (Elt Ideal) ((c.tc : Thread Cert.DaIdeal.nD Cert.DaIdeal.τ).loc Cert.DaIdeal.main_v3)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v3) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ θ_run (Cert.DaReferenceIdeal.defs (F := Ideal)) (onTc (τ := Cert.DaReferenceIdeal.τ) (Cert.DaReferenceIdeal.main (F := Ideal))) ⟨m', fun _ => 0, g'⟩ (fun r => ∀ c : Dev Cert.DaReferenceIdeal.nD,
          r.2.mem ((c.tc : Thread Cert.DaReferenceIdeal.nD Cert.DaReferenceIdeal.τ).loc Cert.DaReferenceIdeal.main_v2) = v0 c
          ∧ r.2.mem ((c.tc : Thread Cert.DaReferenceIdeal.nD Cert.DaReferenceIdeal.τ).loc Cert.DaReferenceIdeal.main_arg0) = m' ((c.tc : Thread Cert.DaReferenceIdeal.nD Cert.DaReferenceIdeal.τ).loc Cert.DaReferenceIdeal.main_arg0)
          ∧ r.2.mem ((c.tc : Thread Cert.DaReferenceIdeal.nD Cert.DaReferenceIdeal.τ).loc Cert.DaReferenceIdeal.main_arg1) = m' ((c.tc : Thread Cert.DaReferenceIdeal.nD Cert.DaReferenceIdeal.τ).loc Cert.DaReferenceIdeal.main_arg1)
          ∧ r.2.mem ((c.tc : Thread Cert.DaReferenceIdeal.nD Cert.DaReferenceIdeal.τ).loc Cert.DaReferenceIdeal.main_arg2) = m' ((c.tc : Thread Cert.DaReferenceIdeal.nD Cert.DaReferenceIdeal.τ).loc Cert.DaReferenceIdeal.main_arg2))

def Claim : Prop :=
  ∃ (hKernel : Cert.Kernel.Facts) (hKernelIdeal : Cert.KernelIdeal.Facts) (hReferenceIdeal : Cert.ReferenceIdeal.Facts) (hXa : Cert.Xa.Facts) (hXaIdeal : Cert.XaIdeal.Facts) (hXaReferenceIdeal : Cert.XaReferenceIdeal.Facts) (hDa : Cert.Da.Facts) (hDaIdeal : Cert.DaIdeal.Facts) (hDaReferenceIdeal : Cert.DaReferenceIdeal.Facts) (hPre_moderate : Cert.Pre_moderate.Facts) (hPre_finite : Cert.Pre_finite.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ quiescent_Xa (hXa := hXa)
    ∧ quiescent_XaIdeal (hXaIdeal := hXaIdeal)
    ∧ quiescent_XaReferenceIdeal (hXaReferenceIdeal := hXaReferenceIdeal)
    ∧ quiescent_Da (hDa := hDa)
    ∧ quiescent_DaIdeal (hDaIdeal := hDaIdeal)
    ∧ quiescent_DaIdeal_pre_finite (hDaIdeal := hDaIdeal) (hPre_finite := hPre_finite)
    ∧ quiescent_DaReferenceIdeal (hDaReferenceIdeal := hDaReferenceIdeal)
    ∧ quiescent_DaReferenceIdeal_pre_finite (hDaReferenceIdeal := hDaReferenceIdeal) (hPre_finite := hPre_finite)
    ∧ preserves_Kernel_KernelIdeal
    ∧ algebraic_KernelIdeal_ReferenceIdeal_pre_moderate (hKernelIdeal := hKernelIdeal) (hReferenceIdeal := hReferenceIdeal) (hPre_moderate := hPre_moderate)
    ∧ preserves_Xa_XaIdeal
    ∧ algebraic_XaIdeal_XaReferenceIdeal (hXaIdeal := hXaIdeal) (hXaReferenceIdeal := hXaReferenceIdeal)
    ∧ preserves_Da_DaIdeal
    ∧ algebraic_DaIdeal_DaReferenceIdeal_pre_finite (hDaIdeal := hDaIdeal) (hDaReferenceIdeal := hDaReferenceIdeal) (hPre_finite := hPre_finite)
-- ==== Pre_finite.lean ====
abbrev S3x4096x7168 : Shape := ⟨3, ![3, 4096, 7168]⟩
abbrev S3x4096 : Shape := ⟨2, ![3, 4096]⟩
abbrev S12288x32 : Shape := ⟨2, ![12288, 32]⟩
abbrev S_ : Shape := ⟨0, ![]⟩

class Facts : Prop where
  bcast_S_S3x4096 : S_.BroadcastsInDim S3x4096 (![] : Fin 0 → Fin S3x4096.rank)
  reducesTo_S3x4096_S_d0_1 : S3x4096.ReducesTo [0, 1] S_
  h_S_ : 0 < S_.numel
  bcast_S_S12288x32 : S_.BroadcastsInDim S12288x32 (![] : Fin 0 → Fin S12288x32.rank)
  reducesTo_S12288x32_S_d0_1 : S12288x32.ReducesTo [0, 1] S_

variable [Facts]

def fn {F : FTy → Type} [FloatOps F] (main_arg0 : FVec F S3x4096x7168 .fp8e4m3) (main_arg1 : FVec F S3x4096 .f32) (main_arg2 : FVec F S12288x32 .f32) : IVec S_ 1 :=
  let main_v0 : FVec F S3x4096 .f32 := Host.absf main_arg1
  let main_cst : FVec F S_ .f32 := constant S_ .f32 0x7F800000#32
  let main_v1 : FVec F S3x4096 .f32 := broadcastInDim S3x4096 ![] bcast_S_S3x4096 main_cst
  let main_v2 : IVec S3x4096 1 := cmpf .olt main_v0 main_v1
  let main_c : IVec S_ 1 := constantI S_ 1 1#1
  let main_v3 : IVec S_ 1 := (fun x v => Host.reduce IntOp.andi x v reducesTo_S3x4096_S_d0_1 h_S_) main_v2 main_c
  let main_v4 : FVec F S12288x32 .f32 := Host.absf main_arg2
  let main_cst_0 : FVec F S_ .f32 := constant S_ .f32 0x7F800000#32
  let main_v5 : FVec F S12288x32 .f32 := broadcastInDim S12288x32 ![] bcast_S_S12288x32 main_cst_0
  let main_v6 : IVec S12288x32 1 := cmpf .olt main_v4 main_v5
  let main_c_1 : IVec S_ 1 := constantI S_ 1 1#1
  let main_v7 : IVec S_ 1 := (fun x v => Host.reduce IntOp.andi x v reducesTo_S12288x32_S_d0_1 h_S_) main_v6 main_c_1
  let main_v8 : IVec S_ 1 := andi main_v3 main_v7
  main_v8
-- ==== Pre_moderate.lean ====
abbrev S3x4096x18432 : Shape := ⟨3, ![3, 4096, 18432]⟩
abbrev S3x4096 : Shape := ⟨2, ![3, 4096]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S12288x32 : Shape := ⟨2, ![12288, 32]⟩
abbrev S_ : Shape := ⟨0, ![]⟩

class Facts : Prop where
  natLt_8_32 : 8 < 32
  bcast_S_S3x4096x18432 : S_.BroadcastsInDim S3x4096x18432 (![] : Fin 0 → Fin S3x4096x18432.rank)
  reducesTo_S3x4096x18432_S_d0_1_2 : S3x4096x18432.ReducesTo [0, 1, 2] S_
  h_S_ : 0 < S_.numel
  bcast_S_S7168x18432 : S_.BroadcastsInDim S7168x18432 (![] : Fin 0 → Fin S7168x18432.rank)
  reducesTo_S7168x18432_S_d0_1 : S7168x18432.ReducesTo [0, 1] S_
  bcast_S_S3x4096 : S_.BroadcastsInDim S3x4096 (![] : Fin 0 → Fin S3x4096.rank)
  reducesTo_S3x4096_S_d0_1 : S3x4096.ReducesTo [0, 1] S_
  bcast_S_S18432 : S_.BroadcastsInDim S18432 (![] : Fin 0 → Fin S18432.rank)
  reducesTo_S18432_S_d0 : S18432.ReducesTo [0] S_
  bitsLt_bf16_f32 : FTy.bits .bf16 < FTy.bits .f32
  bcast_S_S7168x32 : S_.BroadcastsInDim S7168x32 (![] : Fin 0 → Fin S7168x32.rank)
  reducesTo_S7168x32_S_d0_1 : S7168x32.ReducesTo [0, 1] S_
  bcast_S_S32x18432 : S_.BroadcastsInDim S32x18432 (![] : Fin 0 → Fin S32x18432.rank)
  reducesTo_S32x18432_S_d0_1 : S32x18432.ReducesTo [0, 1] S_
  bcast_S_S12288x32 : S_.BroadcastsInDim S12288x32 (![] : Fin 0 → Fin S12288x32.rank)
  reducesTo_S12288x32_S_d0_1 : S12288x32.ReducesTo [0, 1] S_

variable [Facts]

def fn_part2 {F : FTy → Type} [FloatOps F] (main_arg6 : FVec F S12288x32 .f32) (main_v30 : IVec S_ 1) (main_v33 : IVec S_ 1) : IVec S_ 1 :=
  let main_v34 : IVec S_ 1 := andi main_v33 main_v30
  let main_v35 : FVec F S12288x32 .f32 := Host.absf main_arg6
  let main_cst_12 : FVec F S_ .f32 := constant S_ .f32 0x7F800000#32
  let main_v36 : FVec F S12288x32 .f32 := broadcastInDim S12288x32 ![] bcast_S_S12288x32 main_cst_12
  let main_v37 : IVec S12288x32 1 := cmpf .olt main_v35 main_v36
  let main_c_13 : IVec S_ 1 := constantI S_ 1 1#1
  let main_v38 : IVec S_ 1 := (fun x v => Host.reduce IntOp.andi x v reducesTo_S12288x32_S_d0_1 h_S_) main_v37 main_c_13
  let main_v39 : IVec S_ 1 := andi main_v34 main_v38
  main_v39

def fn_part1 {F : FTy → Type} [FloatOps F] (main_arg3 : FVec F S18432 .f32) (main_arg4 : FVec F S7168x32 .bf16) (main_arg5 : FVec F S32x18432 .bf16) (main_arg6 : FVec F S12288x32 .f32) (main_v12 : IVec S_ 1) (main_v15 : IVec S3x4096 1) (main_c_5 : IVec S_ 1) : IVec S_ 1 :=
  let main_v16 : IVec S_ 1 := (fun x v => Host.reduce IntOp.andi x v reducesTo_S3x4096_S_d0_1 h_S_) main_v15 main_c_5
  let main_v17 : FVec F S18432 .f32 := Host.absf main_arg3
  let main_cst_6 : FVec F S_ .f32 := constant S_ .f32 0x4E800000#32
  let main_v18 : FVec F S18432 .f32 := broadcastInDim S18432 ![] bcast_S_S18432 main_cst_6
  let main_v19 : IVec S18432 1 := cmpf .ole main_v17 main_v18
  let main_c_7 : IVec S_ 1 := constantI S_ 1 1#1
  let main_v20 : IVec S_ 1 := (fun x v => Host.reduce IntOp.andi x v reducesTo_S18432_S_d0 h_S_) main_v19 main_c_7
  let main_v21 : FVec F S7168x32 .f32 := (extf .f32 · bitsLt_bf16_f32) main_arg4
  let main_v22 : FVec F S7168x32 .f32 := Host.absf main_v21
  let main_cst_8 : FVec F S_ .f32 := constant S_ .f32 0x4E800000#32
  let main_v23 : FVec F S7168x32 .f32 := broadcastInDim S7168x32 ![] bcast_S_S7168x32 main_cst_8
  let main_v24 : IVec S7168x32 1 := cmpf .ole main_v22 main_v23
  let main_c_9 : IVec S_ 1 := constantI S_ 1 1#1
  let main_v25 : IVec S_ 1 := (fun x v => Host.reduce IntOp.andi x v reducesTo_S7168x32_S_d0_1 h_S_) main_v24 main_c_9
  let main_v26 : FVec F S32x18432 .f32 := (extf .f32 · bitsLt_bf16_f32) main_arg5
  let main_v27 : FVec F S32x18432 .f32 := Host.absf main_v26
  let main_cst_10 : FVec F S_ .f32 := constant S_ .f32 0x4E800000#32
  let main_v28 : FVec F S32x18432 .f32 := broadcastInDim S32x18432 ![] bcast_S_S32x18432 main_cst_10
  let main_v29 : IVec S32x18432 1 := cmpf .ole main_v27 main_v28
  let main_c_11 : IVec S_ 1 := constantI S_ 1 1#1
  let main_v30 : IVec S_ 1 := (fun x v => Host.reduce IntOp.andi x v reducesTo_S32x18432_S_d0_1 h_S_) main_v29 main_c_11
  let main_v31 : IVec S_ 1 := andi main_v12 main_v16
  let main_v32 : IVec S_ 1 := andi main_v31 main_v20
  let main_v33 : IVec S_ 1 := andi main_v32 main_v25
  fn_part2 (F := F) main_arg6 main_v30 main_v33

def fn {F : FTy → Type} [FloatOps F] (main_arg0 : IVec S3x4096x18432 8) (main_arg1 : FVec F S3x4096 .f32) (main_arg2 : IVec S7168x18432 8) (main_arg3 : FVec F S18432 .f32) (main_arg4 : FVec F S7168x32 .bf16) (main_arg5 : FVec F S32x18432 .bf16) (main_arg6 : FVec F S12288x32 .f32) : IVec S_ 1 :=
  let main_v0 : IVec S3x4096x18432 32 := (extui 32 · natLt_8_32) main_arg0
  let main_c : IVec S_ 32 := constantI S_ 32 124#32
  let main_v1 : IVec S3x4096x18432 32 := broadcastInDim S3x4096x18432 ![] bcast_S_S3x4096x18432 main_c
  let main_v2 : IVec S3x4096x18432 32 := andi main_v0 main_v1
  let main_c_0 : IVec S_ 32 := constantI S_ 32 124#32
  let main_v3 : IVec S3x4096x18432 32 := broadcastInDim S3x4096x18432 ![] bcast_S_S3x4096x18432 main_c_0
  let main_v4 : IVec S3x4096x18432 1 := cmpi .ne main_v2 main_v3
  let main_c_1 : IVec S_ 1 := constantI S_ 1 1#1
  let main_v5 : IVec S_ 1 := (fun x v => Host.reduce IntOp.andi x v reducesTo_S3x4096x18432_S_d0_1_2 h_S_) main_v4 main_c_1
  let main_v6 : IVec S7168x18432 32 := (extui 32 · natLt_8_32) main_arg2
  let main_c_2 : IVec S_ 32 := constantI S_ 32 127#32
  let main_v7 : IVec S7168x18432 32 := broadcastInDim S7168x18432 ![] bcast_S_S7168x18432 main_c_2
  let main_v8 : IVec S7168x18432 32 := andi main_v6 main_v7
  let main_c_3 : IVec S_ 32 := constantI S_ 32 127#32
  let main_v9 : IVec S7168x18432 32 := broadcastInDim S7168x18432 ![] bcast_S_S7168x18432 main_c_3
  let main_v10 : IVec S7168x18432 1 := cmpi .ne main_v8 main_v9
  let main_c_4 : IVec S_ 1 := constantI S_ 1 1#1
  let main_v11 : IVec S_ 1 := (fun x v => Host.reduce IntOp.andi x v reducesTo_S7168x18432_S_d0_1 h_S_) main_v10 main_c_4
  let main_v12 : IVec S_ 1 := andi main_v5 main_v11
  let main_v13 : FVec F S3x4096 .f32 := Host.absf main_arg1
  let main_cst : FVec F S_ .f32 := constant S_ .f32 0x4E800000#32
  let main_v14 : FVec F S3x4096 .f32 := broadcastInDim S3x4096 ![] bcast_S_S3x4096 main_cst
  let main_v15 : IVec S3x4096 1 := cmpf .ole main_v13 main_v14
  let main_c_5 : IVec S_ 1 := constantI S_ 1 1#1
  fn_part1 (F := F) main_arg3 main_arg4 main_arg5 main_arg6 main_v12 main_v15 main_c_5
-- ==== Kernel.lean ====
abbrev S3x4096x18432 : Shape := ⟨3, ![3, 4096, 18432]⟩
abbrev S3x4096 : Shape := ⟨2, ![3, 4096]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S12288x32 : Shape := ⟨2, ![12288, 32]⟩
abbrev S12288x18432 : Shape := ⟨2, ![12288, 18432]⟩
abbrev S12288x1 : Shape := ⟨2, ![12288, 1]⟩
abbrev S32x7168 : Shape := ⟨2, ![32, 7168]⟩
abbrev S1x18432 : Shape := ⟨2, ![1, 18432]⟩
abbrev S12288x7168 : Shape := ⟨2, ![12288, 7168]⟩
abbrev S512x1024 : Shape := ⟨2, ![512, 1024]⟩
abbrev S512x1 : Shape := ⟨2, ![512, 1]⟩
abbrev S7168x1024 : Shape := ⟨2, ![7168, 1024]⟩
abbrev S1x1024 : Shape := ⟨2, ![1, 1024]⟩
abbrev S32x1024 : Shape := ⟨2, ![32, 1024]⟩
abbrev S512x32 : Shape := ⟨2, ![512, 32]⟩
abbrev S512x7168 : Shape := ⟨2, ![512, 7168]⟩
abbrev S32x512 : Shape := ⟨2, ![32, 512]⟩
abbrev S96x512 : Shape := ⟨2, ![96, 512]⟩
abbrev S96x1024 : Shape := ⟨2, ![96, 1024]⟩
abbrev S512x96 : Shape := ⟨2, ![512, 96]⟩
abbrev S512x512 : Shape := ⟨2, ![512, 512]⟩
abbrev S512 : Shape := ⟨1, ![512]⟩
abbrev S512x256 : Shape := ⟨2, ![512, 256]⟩

abbrev nBuf : Space → Nat
  | .hbm => 18
  | .vmem => 26
  | .smem => 0
  | _ => 0

abbrev bufTy : (tb : Table) → Fin (tcTables nBuf tb) → BufTy
  | .hbm, ⟨0, _⟩ => ⟨S3x4096x18432, .i8⟩
  | .hbm, ⟨1, _⟩ => ⟨S3x4096, .f32⟩
  | .hbm, ⟨2, _⟩ => ⟨S7168x18432, .i8⟩
  | .hbm, ⟨3, _⟩ => ⟨S18432, .f32⟩
  | .hbm, ⟨4, _⟩ => ⟨S7168x32, .bf16⟩
  | .hbm, ⟨5, _⟩ => ⟨S32x18432, .bf16⟩
  | .hbm, ⟨6, _⟩ => ⟨S12288x32, .f32⟩
  | .hbm, ⟨7, _⟩ => ⟨S3x4096x18432, .fp8e5m2⟩
  | .hbm, ⟨8, _⟩ => ⟨S7168x18432, .fp8e4m3⟩
  | .hbm, ⟨9, _⟩ => ⟨S12288x18432, .fp8e5m2⟩
  | .hbm, ⟨10, _⟩ => ⟨S12288x1, .f32⟩
  | .hbm, ⟨11, _⟩ => ⟨S32x7168, .bf16⟩
  | .hbm, ⟨12, _⟩ => ⟨S1x18432, .f32⟩
  | .hbm, ⟨13, _⟩ => ⟨S12288x7168, .bf16⟩
  | .hbm, ⟨14, _⟩ => ⟨S12288x7168, .fp8e5m2⟩
  | .hbm, ⟨15, _⟩ => ⟨S12288x1, .f32⟩
  | .hbm, ⟨16, _⟩ => ⟨S12288x32, .f32⟩
  | .hbm, ⟨17, _⟩ => ⟨S32x18432, .f32⟩
  | .local _ .vmem, ⟨0, _⟩ => ⟨S512x1024, .fp8e5m2⟩
  | .local _ .vmem, ⟨1, _⟩ => ⟨S512x1024, .fp8e5m2⟩
  | .local _ .vmem, ⟨2, _⟩ => ⟨S512x1, .f32⟩
  | .local _ .vmem, ⟨3, _⟩ => ⟨S512x1, .f32⟩
  | .local _ .vmem, ⟨4, _⟩ => ⟨S7168x1024, .fp8e4m3⟩
  | .local _ .vmem, ⟨5, _⟩ => ⟨S7168x1024, .fp8e4m3⟩
  | .local _ .vmem, ⟨6, _⟩ => ⟨S1x1024, .f32⟩
  | .local _ .vmem, ⟨7, _⟩ => ⟨S1x1024, .f32⟩
  | .local _ .vmem, ⟨8, _⟩ => ⟨S32x1024, .bf16⟩
  | .local _ .vmem, ⟨9, _⟩ => ⟨S32x1024, .bf16⟩
  | .local _ .vmem, ⟨10, _⟩ => ⟨S32x7168, .bf16⟩
  | .local _ .vmem, ⟨11, _⟩ => ⟨S512x32, .f32⟩
  | .local _ .vmem, ⟨12, _⟩ => ⟨S512x32, .f32⟩
  | .local _ .vmem, ⟨13, _⟩ => ⟨S512x7168, .bf16⟩
  | .local _ .vmem, ⟨14, _⟩ => ⟨S512x7168, .bf16⟩
  | .local _ .vmem, ⟨15, _⟩ => ⟨S512x7168, .fp8e5m2⟩
  | .local _ .vmem, ⟨16, _⟩ => ⟨S512x7168, .fp8e5m2⟩
  | .local _ .vmem, ⟨17, _⟩ => ⟨S512x1, .f32⟩
  | .local _ .vmem, ⟨18, _⟩ => ⟨S512x1, .f32⟩
  | .local _ .vmem, ⟨19, _⟩ => ⟨S512x32, .f32⟩
  | .local _ .vmem, ⟨20, _⟩ => ⟨S512x32, .f32⟩
  | .local _ .vmem, ⟨21, _⟩ => ⟨S32x18432, .f32⟩
  | .local _ .vmem, ⟨22, _⟩ => ⟨S512x7168, .f32⟩
  | .local _ .vmem, ⟨23, _⟩ => ⟨S32x512, .f32⟩
  | .local _ .vmem, ⟨24, _⟩ => ⟨S512x1024, .bf16⟩
  | .local _ .vmem, ⟨25, _⟩ => ⟨S96x512, .bf16⟩
  | _, _ => ⟨S3x4096x18432, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![24, 18], ![false, false]⟩

def k0_mult1 (i : grid0.Coords) : BitVec 32 :=
  let arg1 : BitVec 32 := BitVec.ofNat 32 (i 1).val
  let c1024_i32 : BitVec 32 := 1024#32
  let v43 : BitVec 32 := Scalar.muli arg1 c1024_i32
  v43
def k0_cond2 (i : grid0.Coords) : BitVec 1 :=
  let arg0 : BitVec 32 := BitVec.ofNat 32 (i 0).val
  let c0_i32_29 : BitVec 32 := 0#32
  let v45 : BitVec 1 := Scalar.cmpi .eq arg0 c0_i32_29
  let v46 : BitVec 32 := Scalar.extui v45
  let c0_i32_30 : BitVec 32 := 0#32
  let v47 : BitVec 1 := Scalar.cmpi .ne v46 c0_i32_30
  v47

def k0_off1 (i : grid0.Coords) : Fin 2 → Nat :=
  let c0_34 : Index := 0#32
  let arg1 : BitVec 32 := BitVec.ofNat 32 (i 1).val
  let c1024_i32 : BitVec 32 := 1024#32
  let v43 : BitVec 32 := Scalar.muli arg1 c1024_i32
  let v44 : BitVec 32 := v43
  let v54 : Index := Scalar.indexCast v44
  ![0, v54.toNat]
def k0_cond3 (i : grid0.Coords) : BitVec 1 :=
  let arg0 : BitVec 32 := BitVec.ofNat 32 (i 0).val
  let c0_i32_31 : BitVec 32 := 0#32
  let v48 : BitVec 1 := Scalar.cmpi .sgt arg0 c0_i32_31
  let v49 : BitVec 32 := Scalar.extui v48
  let c0_i32_32 : BitVec 32 := 0#32
  let v50 : BitVec 1 := Scalar.cmpi .ne v49 c0_i32_32
  v50

def k0_off2 (i : grid0.Coords) : Fin 2 → Nat :=
  let c0_34 : Index := 0#32
  let arg1 : BitVec 32 := BitVec.ofNat 32 (i 1).val
  let c1024_i32 : BitVec 32 := 1024#32
  let v43 : BitVec 32 := Scalar.muli arg1 c1024_i32
  let v44 : BitVec 32 := v43
  let v54 : Index := Scalar.indexCast v44
  ![0, v54.toNat]
def k0_cond4 (i : grid0.Coords) : BitVec 1 :=
  let arg1 : BitVec 32 := BitVec.ofNat 32 (i 1).val
  let c17_i32 : BitVec 32 := 17#32
  let v51 : BitVec 1 := Scalar.cmpi .eq arg1 c17_i32
  let v52 : BitVec 32 := Scalar.extui v51
  let c0_i32_33 : BitVec 32 := 0#32
  let v53 : BitVec 1 := Scalar.cmpi .ne v52 c0_i32_33
  v53

@[reducible] def k0_t1_loop : Scf.Loop 32 :=
  let c0_i32_41 : BitVec 32 := 0#32
  let c14_i32 : BitVec 32 := 14#32
  let v70 : BitVec 32 := Scalar.addi c0_i32_41 c14_i32
  let c1_i32 : BitVec 32 := 1#32
  ⟨c0_i32_41, v70, c1_i32⟩
def k0_mult2 (k0_t1 : Fin k0_t1_loop.trips) : BitVec 32 :=
  let c0_i32_41 : BitVec 32 := 0#32
  let c1_i32 : BitVec 32 := 1#32
  let arg18 : BitVec 32 := Scf.iv c0_i32_41 c1_i32 k0_t1
  let c512_i32 : BitVec 32 := 512#32
  let v109 : BitVec 32 := Scalar.muli arg18 c512_i32
  v109
def k0_off3 (k0_t1 : Fin k0_t1_loop.trips) : Fin 2 → Nat :=
  let c0_59 : Index := 0#32
  let c0_i32_41 : BitVec 32 := 0#32
  let c1_i32 : BitVec 32 := 1#32
  let arg18 : BitVec 32 := Scf.iv c0_i32_41 c1_i32 k0_t1
  let c512_i32 : BitVec 32 := 512#32
  let v109 : BitVec 32 := Scalar.muli arg18 c512_i32
  let v110 : BitVec 32 := v109
  let v111 : Index := Scalar.indexCast v110
  ![0, v111.toNat]
def k0_off4 (k0_t1 : Fin k0_t1_loop.trips) : Fin 2 → Nat :=
  let c0_60 : Index := 0#32
  let c0_i32_41 : BitVec 32 := 0#32
  let c1_i32 : BitVec 32 := 1#32
  let arg18 : BitVec 32 := Scf.iv c0_i32_41 c1_i32 k0_t1
  let c512_i32 : BitVec 32 := 512#32
  let v109 : BitVec 32 := Scalar.muli arg18 c512_i32
  let v110 : BitVec 32 := v109
  let v115 : Index := Scalar.indexCast v110
  ![0, v115.toNat]
@[reducible] def k0_t2_loop : Scf.Loop 32 :=
  let c0_i32_55 : BitVec 32 := 0#32
  let c14_i32_56 : BitVec 32 := 14#32
  let v108 : BitVec 32 := Scalar.addi c0_i32_55 c14_i32_56
  let c1_i32_57 : BitVec 32 := 1#32
  ⟨c0_i32_55, v108, c1_i32_57⟩
def k0_mult3 (k0_t2 : Fin k0_t2_loop.trips) : BitVec 32 :=
  let c0_i32_55 : BitVec 32 := 0#32
  let c1_i32_57 : BitVec 32 := 1#32
  let arg18 : BitVec 32 := Scf.iv c0_i32_55 c1_i32_57 k0_t2
  let c512_i32 : BitVec 32 := 512#32
  let v109 : BitVec 32 := Scalar.muli arg18 c512_i32
  v109
def k0_off5 (k0_t2 : Fin k0_t2_loop.trips) : Fin 2 → Nat :=
  let c0_59 : Index := 0#32
  let c0_i32_55 : BitVec 32 := 0#32
  let c1_i32_57 : BitVec 32 := 1#32
  let arg18 : BitVec 32 := Scf.iv c0_i32_55 c1_i32_57 k0_t2
  let c512_i32 : BitVec 32 := 512#32
  let v109 : BitVec 32 := Scalar.muli arg18 c512_i32
  let v110 : BitVec 32 := v109
  let v111 : Index := Scalar.indexCast v110
  ![0, v111.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S32x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x7168 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S32x18432 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S3x4096x18432 : Shape := ⟨3, ![3, 4096, 18432]⟩
abbrev S3x4096 : Shape := ⟨2, ![3, 4096]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S12288x32 : Shape := ⟨2, ![12288, 32]⟩
abbrev S12288x18432 : Shape := ⟨2, ![12288, 18432]⟩
abbrev S12288x1 : Shape := ⟨2, ![12288, 1]⟩
abbrev S1x18432 : Shape := ⟨2, ![1, 18432]⟩
abbrev S12288x7168 : Shape := ⟨2, ![12288, 7168]⟩
abbrev S12288 : Shape := ⟨1, ![12288]⟩

abbrev nBuf : Space → Nat
  | .hbm => 17
  | .vmem => 12
  | .smem => 0
  | _ => 0

abbrev bufTy : (tb : Table) → Fin (tcTables nBuf tb) → BufTy
  | .hbm, ⟨0, _⟩ => ⟨S3x4096x18432, .i8⟩
  | .hbm, ⟨1, _⟩ => ⟨S3x4096, .f32⟩
  | .hbm, ⟨2, _⟩ => ⟨S7168x18432, .i8⟩
  | .hbm, ⟨3, _⟩ => ⟨S18432, .f32⟩
  | .hbm, ⟨4, _⟩ => ⟨S7168x32, .bf16⟩
  | .hbm, ⟨5, _⟩ => ⟨S32x18432, .bf16⟩
  | .hbm, ⟨6, _⟩ => ⟨S12288x32, .f32⟩
  | .hbm, ⟨7, _⟩ => ⟨S3x4096x18432, .fp8e5m2⟩
  | .hbm, ⟨8, _⟩ => ⟨S7168x18432, .fp8e4m3⟩
  | .hbm, ⟨9, _⟩ => ⟨S12288x18432, .fp8e5m2⟩
  | .hbm, ⟨10, _⟩ => ⟨S12288x1, .f32⟩
  | .hbm, ⟨11, _⟩ => ⟨S1x18432, .f32⟩
  | .hbm, ⟨12, _⟩ => ⟨S12288x7168, .bf16⟩
  | .hbm, ⟨13, _⟩ => ⟨S12288x7168, .fp8e5m2⟩
  | .hbm, ⟨14, _⟩ => ⟨S12288x1, .f32⟩
  | .hbm, ⟨15, _⟩ => ⟨S12288x32, .f32⟩
  | .hbm, ⟨16, _⟩ => ⟨S32x18432, .f32⟩
  | .local _ .vmem, ⟨0, _⟩ => ⟨S12288x18432, .fp8e5m2⟩
  | .local _ .vmem, ⟨1, _⟩ => ⟨S12288x1, .f32⟩
  | .local _ .vmem, ⟨2, _⟩ => ⟨S7168x18432, .fp8e4m3⟩
  | .local _ .vmem, ⟨3, _⟩ => ⟨S1x18432, .f32⟩
  | .local _ .vmem, ⟨4, _⟩ => ⟨S7168x32, .bf16⟩
  | .local _ .vmem, ⟨5, _⟩ => ⟨S32x18432, .bf16⟩
  | .local _ .vmem, ⟨6, _⟩ => ⟨S12288x32, .f32⟩
  | .local _ .vmem, ⟨7, _⟩ => ⟨S12288x7168, .bf16⟩
  | .local _ .vmem, ⟨8, _⟩ => ⟨S12288x7168, .fp8e5m2⟩
  | .local _ .vmem, ⟨9, _⟩ => ⟨S12288x1, .f32⟩
  | .local _ .vmem, ⟨10, _⟩ => ⟨S12288x32, .f32⟩
  | .local _ .vmem, ⟨11, _⟩ => ⟨S32x18432, .f32⟩
  | _, _ => ⟨S3x4096x18432, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12288x18432 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x7168 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x18432 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Xa.lean ====
abbrev S3x4096x7168 : Shape := ⟨3, ![3, 4096, 7168]⟩
abbrev S3x4096 : Shape := ⟨2, ![3, 4096]⟩
abbrev S7168x32 : Shape := ⟨2, ![7168, 32]⟩
abbrev S12288x7168 : Shape := ⟨2, ![12288, 7168]⟩
abbrev S12288x1 : Shape := ⟨2, ![12288, 1]⟩
abbrev S32x7168 : Shape := ⟨2, ![32, 7168]⟩
abbrev S12288x32 : Shape := ⟨2, ![12288, 32]⟩
abbrev S512x7168 : Shape := ⟨2, ![512, 7168]⟩
abbrev S512x1 : Shape := ⟨2, ![512, 1]⟩
abbrev S512x32 : Shape := ⟨2, ![512, 32]⟩
abbrev S32x512 : Shape := ⟨2, ![32, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096, .f32⟩
  | .hbm, ⟨2, _⟩ => ⟨S7168x32, .bf16⟩
  | .hbm, ⟨3, _⟩ => ⟨S12288x7168, .fp8e4m3⟩
  | .hbm, ⟨4, _⟩ => ⟨S12288x1, .f32⟩
  | .hbm, ⟨5, _⟩ => ⟨S32x7168, .bf16⟩
  | .hbm, ⟨6, _⟩ => ⟨S12288x32, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x1, .f32⟩
  | .local _ .vmem, ⟨3, _⟩ => ⟨S512x1, .f32⟩
  | .local _ .vmem, ⟨4, _⟩ => ⟨S32x7168, .bf16⟩
  | .local _ .vmem, ⟨5, _⟩ => ⟨S512x32, .f32⟩
  | .local _ .vmem, ⟨6, _⟩ => ⟨S512x32, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XaReferenceIdeal.lean ====
abbrev S3x4096x7168 : Shape := ⟨3, ![3, 4096, 7168]⟩
abbrev S3x4096 : Shape := ⟨2, ![3, 4096]⟩
abbrev S7168x32 : Shape := ⟨2, ![7168, 32]⟩
abbrev S12288x7168 : Shape := ⟨2, ![12288, 7168]⟩
abbrev S12288x1 : Shape := ⟨2, ![12288, 1]⟩
abbrev S12288x32 : Shape := ⟨2, ![12288, 32]⟩

abbrev nBuf : Space → Nat
  | .hbm => 6
  | .vmem => 4
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096, .f32⟩
  | .hbm, ⟨2, _⟩ => ⟨S7168x32, .bf16⟩
  | .hbm, ⟨3, _⟩ => ⟨S12288x7168, .fp8e4m3⟩
  | .hbm, ⟨4, _⟩ => ⟨S12288x1, .f32⟩
  | .hbm, ⟨5, _⟩ => ⟨S12288x32, .f32⟩
  | .local _ .vmem, ⟨0, _⟩ => ⟨S12288x7168, .fp8e4m3⟩
  | .local _ .vmem, ⟨1, _⟩ => ⟨S12288x1, .f32⟩
  | .local _ .vmem, ⟨2, _⟩ => ⟨S7168x32, .bf16⟩
  | .local _ .vmem, ⟨3, _⟩ => ⟨S12288x32, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12288x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Da.lean ====
abbrev S3x4096x7168 : Shape := ⟨3, ![3, 4096, 7168]⟩
abbrev S3x4096 : Shape := ⟨2, ![3, 4096]⟩
abbrev S12288x32 : Shape := ⟨2, ![12288, 32]⟩
abbrev S12288x7168 : Shape := ⟨2, ![12288, 7168]⟩
abbrev S12288x1 : Shape := ⟨2, ![12288, 1]⟩
abbrev S32x7168 : Shape := ⟨2, ![32, 7168]⟩
abbrev S512x7168 : Shape := ⟨2, ![512, 7168]⟩
abbrev S512x1 : Shape := ⟨2, ![512, 1]⟩
abbrev S512x32 : Shape := ⟨2, ![512, 32]⟩
abbrev S32x512 : Shape := ⟨2, ![32, 512]⟩
abbrev S96x512 : Shape := ⟨2, ![96, 512]⟩
abbrev S96x7168 : Shape := ⟨2, ![96, 7168]⟩
abbrev S7168x32 : Shape := ⟨2, ![7168, 32]⟩

abbrev nBuf : Space → Nat
  | .hbm => 7
  | .vmem => 7
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096, .f32⟩
  | .hbm, ⟨2, _⟩ => ⟨S12288x32, .f32⟩
  | .hbm, ⟨3, _⟩ => ⟨S12288x7168, .fp8e4m3⟩
  | .hbm, ⟨4, _⟩ => ⟨S12288x1, .f32⟩
  | .hbm, ⟨5, _⟩ => ⟨S32x7168, .f32⟩
  | .hbm, ⟨6, _⟩ => ⟨S7168x32, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x1, .f32⟩
  | .local _ .vmem, ⟨3, _⟩ => ⟨S512x1, .f32⟩
  | .local _ .vmem, ⟨4, _⟩ => ⟨S512x32, .f32⟩
  | .local _ .vmem, ⟨5, _⟩ => ⟨S512x32, .f32⟩
  | .local _ .vmem, ⟨6, _⟩ => ⟨S32x7168, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_6 : BitVec 32 := 0#32
  let v26 : BitVec 1 := Scalar.cmpi .ne v25 c0_i32_6
  v26

def k0_cond2 (i : grid0.Coords) : BitVec 1 :=
  let arg0 : BitVec 32 := BitVec.ofNat 32 (i 0).val
  let c0_i32_7 : BitVec 32 := 0#32
  let v27 : BitVec 1 := Scalar.cmpi .sgt arg0 c0_i32_7
  let v28 : BitVec 32 := Scalar.extui v27
  let c0_i32_8 : BitVec 32 := 0#32
  let v29 : BitVec 1 := Scalar.cmpi .ne v28 c0_i32_8
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DaReferenceIdeal.lean ====
abbrev S3x4096x7168 : Shape := ⟨3, ![3, 4096, 7168]⟩
abbrev S3x4096 : Shape := ⟨2, ![3, 4096]⟩
abbrev S12288x32 : Shape := ⟨2, ![12288, 32]⟩
abbrev S12288x7168 : Shape := ⟨2, ![12288, 7168]⟩
abbrev S12288x1 : Shape := ⟨2, ![12288, 1]⟩
abbrev S7168x32 : Shape := ⟨2, ![7168, 32]⟩

abbrev nBuf : Space → Nat
  | .hbm => 6
  | .vmem => 4
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096, .f32⟩
  | .hbm, ⟨2, _⟩ => ⟨S12288x32, .f32⟩
  | .hbm, ⟨3, _⟩ => ⟨S12288x7168, .fp8e4m3⟩
  | .hbm, ⟨4, _⟩ => ⟨S12288x1, .f32⟩
  | .hbm, ⟨5, _⟩ => ⟨S7168x32, .f32⟩
  | .local _ .vmem, ⟨0, _⟩ => ⟨S12288x7168, .fp8e4m3⟩
  | .local _ .vmem, ⟨1, _⟩ => ⟨S12288x1, .f32⟩
  | .local _ .vmem, ⟨2, _⟩ => ⟨S12288x32, .f32⟩
  | .local _ .vmem, ⟨3, _⟩ => ⟨S7168x32, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12288x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Xa.Value.lean ====
/- What the `xa` call and its reference leave in their result arrays. -/
module

public import proofs.«01_k».proof.Proof.Gen.XaIdeal.Frame
public import proofs.«01_k».proof.Proof.Gen.XaReferenceIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The reference -/

namespace Cert.XaReferenceIdeal.Value

open Cert.XaReferenceIdeal Cert.XaReferenceIdeal.Gen

variable (m : (ℓ : Loc nD τ sig) → Buf (Elt Ideal) ℓ)

/-- `(x · A) * x_scale`, the reference's own term over the flattened arguments. -/
abbrev REF (X : FVec Ideal S12288x7168 .fp8e4m3) (S : FVec Ideal S12288x1 .f32) (A : FVec Ideal S7168x32 .bf16) :
    FVec Ideal S12288x32 .f32 :=
  k0_pay1 X A S

/-- Every window's block is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The reference's result array is its term over the arguments. -/
theorem final (c : Dev nD) : (dats m 0 c).arrAt 3 (cfgs 0).N
    = REF (V m c main_v0) (V m c main_v1) (m ((c : Thread nD τ).loc main_arg2)) := by
  refine (dats m 0 c).arrAt_eq_of_after_last 3 t0_0 (by decide +kernel) _ fun j => ?_
  blk_simp; rw [after0_3]; frame_out
  pointwise [k0_pay1]
  blk_point [iblk, V, idx t0_0]

end Cert.XaReferenceIdeal.Value

/-! ## The kernel -/

namespace Cert.XaIdeal.Value

open Cert.XaIdeal Cert.XaIdeal.Gen

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The kernel's result array is the reference's term over the kernel's arguments. -/
theorem final (c : Dev nD) : (dats m 0 c).arrAt 3 (cfgs 0).N
    = Cert.XaReferenceIdeal.Value.REF (V m c main_v0) (V m c main_v1) (m ((c : Thread nD τ).loc main_arg2)) := by
  refine (dats m 0 c).arrAt_eq_of_covers 3 _ (by decide +kernel) fun t _ y => ?_
  blk_simp
  rw [after0_3]; frame_out
  pointwise [k0_pay1, Cert.XaReferenceIdeal.Gen.k0_pay1]
  refine congrArg₂ (· * ·) (Finset.sum_congr rfl fun k _ => (mul_comm _ _).trans ?_) ?_ <;> blk_point [iblk, V, idx t]

end Cert.XaIdeal.Value

end
-- ==== Proof.Xa.Claim.lean ====
/- The `xa` call and its reference end with the same result. -/
module

public import proofs.«01_k».proof.Defs
public import proofs.«01_k».proof.Proof.Xa.Value
public import Idealize.ShloMosaic.Lib.Claim

@[expose] public section

set_option maxRecDepth 16384

noncomputable section

open Idealize.ShloMosaic Idealize.ShloMosaic.TcCoe Idealize.SL.Sem

namespace Cert.Proof

/-- The host's reshapes before the two calls. -/
theorem xa_v0 (m : (ℓ : Loc Cert.XaIdeal.nD Cert.XaIdeal.τ Cert.XaIdeal.sig) → Buf (Elt Ideal) ℓ) (c : Dev Cert.XaIdeal.nD) :
    Cert.XaIdeal.Gen.V m c Cert.XaIdeal.main_v0
      = shapeCast Cert.XaIdeal.S12288x7168 (m ((c.tc : Thread _ _).loc Cert.XaIdeal.main_arg0)) Cert.XaIdeal.Gen.shapeCasts_S3x4096x7168_S12288x7168 := by
  entry_read
  rfl

theorem xa_v1 (m : (ℓ : Loc Cert.XaIdeal.nD Cert.XaIdeal.τ Cert.XaIdeal.sig) → Buf (Elt Ideal) ℓ) (c : Dev Cert.XaIdeal.nD) :
    Cert.XaIdeal.Gen.V m c Cert.XaIdeal.main_v1
      = shapeCast Cert.XaIdeal.S12288x1 (m ((c.tc : Thread _ _).loc Cert.XaIdeal.main_arg1)) Cert.XaIdeal.Gen.shapeCasts_S3x4096_S12288x1 := by
  entry_read
  rfl

theorem xa_ref_v0 (m : (ℓ : Loc Cert.XaReferenceIdeal.nD Cert.XaReferenceIdeal.τ Cert.XaReferenceIdeal.sig) → Buf (Elt Ideal) ℓ)
    (c : Dev Cert.XaReferenceIdeal.nD) :
    Cert.XaReferenceIdeal.Gen.V m c Cert.XaReferenceIdeal.main_v0
      = shapeCast Cert.XaReferenceIdeal.S12288x7168 (m ((c.tc : Thread _ _).loc Cert.XaReferenceIdeal.main_arg0)) Cert.XaReferenceIdeal.Gen.shapeCasts_S3x4096x7168_S12288x7168 := by
  entry_read
  rfl

theorem xa_ref_v1 (m : (ℓ : Loc Cert.XaReferenceIdeal.nD Cert.XaReferenceIdeal.τ Cert.XaReferenceIdeal.sig) → Buf (Elt Ideal) ℓ)
    (c : Dev Cert.XaReferenceIdeal.nD) :
    Cert.XaReferenceIdeal.Gen.V m c Cert.XaReferenceIdeal.main_v1
      = shapeCast Cert.XaReferenceIdeal.S12288x1 (m ((c.tc : Thread _ _).loc Cert.XaReferenceIdeal.main_arg1)) Cert.XaReferenceIdeal.Gen.shapeCasts_S3x4096_S12288x1 := by
  entry_read
  rfl

/-- Both programs run, and from equal arguments the results are equal. -/
theorem xa_algebraic : Cert.algebraic_XaIdeal_XaReferenceIdeal (hXaIdeal := Cert.XaIdeal.Gen.facts)
    (hXaReferenceIdeal := Cert.XaReferenceIdeal.Gen.facts) := by
  pair_intro
  · run_from Cert.XaIdeal.Gen.run_main m g
  · run_from Cert.XaReferenceIdeal.Gen.run_main m' g'
    rw [Cert.XaIdeal.Value.final m c, Cert.XaReferenceIdeal.Value.final m' c, xa_v0, xa_v1, xa_ref_v0, xa_ref_v1,
      (hagree c).1, (hagree c).2.1, (hagree c).2.2]

end Cert.Proof

end
-- ==== Proof.Reals.lean ====
/- Small facts about extended reals that the value proofs share: when a value is a real number, and what the
   three-way split of a real number is. -/
module

public import Idealize.ShloMosaic.Lib.Pipeline.ValueKit
public import Idealize.ShloMosaic.Lib.ReduceAll

@[expose] public section

noncomputable section

open Idealize.ShloMosaic Idealize.ShloMosaic.TcCoe

namespace Cert.Reals

/-- The value is a real number. -/
def Fin' (x : EReal) : Prop := ∃ r : ℝ, x = r

theorem Fin'.mul {x y : EReal} (hx : Fin' x) (hy : Fin' y) : Fin' (x * y) := by
  obtain ⟨a, rfl⟩ := hx; obtain ⟨b, rfl⟩ := hy; exact ⟨a * b, by push_cast; rfl⟩

theorem Fin'.add {x y : EReal} (hx : Fin' x) (hy : Fin' y) : Fin' (x + y) := by
  obtain ⟨a, rfl⟩ := hx; obtain ⟨b, rfl⟩ := hy; exact ⟨a + b, by push_cast; rfl⟩

/-- A real number minus itself is zero. -/
theorem Fin'.sub_self {x : EReal} (hx : Fin' x) : x - x = 0 := by
  obtain ⟨a, rfl⟩ := hx; rw [← EReal.coe_sub]; simp

theorem Fin'.sum {ι : Type} (s : Finset ι) {f : ι → EReal} (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- The constant `2`. -/
theorem two : Ideal.ofBits .f32 0x40000000#32 = (2 : EReal) := by
  have hneg : (BitVec.extractLsb' 31 1 (0x40000000#32) == 1#1) = false := by decide
  have hex : (BitVec.extractLsb' 23 8 (0x40000000#32)).toNat = 128 := by decide
  have hfr : (BitVec.extractLsb' 0 23 (0x40000000#32)).toNat = 0 := by decide
  have h : Ideal.ofBits .f32 0x40000000#32 = ((2 : ℝ) : EReal) := by
    simp only [Ideal.ofBits, Ideal.ieee, hneg, hex, hfr]
    norm_num
  exact h

/-- A value whose magnitude is below infinity is a real number. -/
theorem fin_of_olt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have h' : max x (-x) < ⊤ := by
    by_contra hn
    simp [Ideal.cmp, hn] at h
  rw [max_lt_iff] at h'
  induction x with
  | bot => simp at h'
  | top => simp at h'
  | coe r => exact ⟨r, rfl⟩

/-- Multiplying by a nonnegative real distributes over a sum. -/
theorem sum_mul_two {ι : Type} (s : Finset ι) (f : ι → EReal) : (∑ i ∈ s, f i) * 2 = ∑ i ∈ s, f i * 2 := by
  classical
  induction s using Finset.induction_on with
  | empty => simp
  | insert a s ha ih =>
    rw [Finset.sum_insert ha, Finset.sum_insert ha, ← ih]
    exact EReal.right_distrib_of_nonneg_of_ne_top (by norm_num) (by decide) _ _

end Cert.Reals

end
-- ==== Proof.Da.Value.lean ====
/- What the `da` call and its reference leave in their result arrays. -/
module

public import proofs.«01_k».proof.Proof.Reals
public import proofs.«01_k».proof.Proof.Gen.DaIdeal.Frame
public import proofs.«01_k».proof.Proof.Gen.DaReferenceIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals

/-! ## The reference -/

namespace Cert.DaReferenceIdeal.Value

open Cert.DaReferenceIdeal Cert.DaReferenceIdeal.Gen

variable (m : (ℓ : Loc nD τ sig) → Buf (Elt Ideal) ℓ)

/-- `2 · ∑ x (t · x_scale)`, the reference's own term over the flattened arguments. -/
abbrev REF (X : FVec Ideal S12288x7168 .fp8e4m3) (S : FVec Ideal S12288x1 .f32) (T : FVec Ideal S12288x32 .f32) :
    FVec Ideal S7168x32 .f32 :=
  k0_pay1 X S T

/-- Every window's block is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The reference's result array is its term over the arguments. -/
theorem final (c : Dev nD) : (dats m 0 c).arrAt 3 (cfgs 0).N
    = REF (V m c main_v0) (V m c main_v1) (m ((c : Thread nD τ).loc main_arg2)) := by
  refine (dats m 0 c).arrAt_eq_of_after_last 3 t0_0 (by decide +kernel) _ fun j => ?_
  blk_simp; rw [after0_3]; frame_out
  pointwise [k0_pay1]
  blk_point [iblk, V, idx t0_0]

/-- An entry of the term, as a sum over the rows. -/
theorem ref (X : FVec Ideal S12288x7168 .fp8e4m3) (S : FVec Ideal S12288x1 .f32) (T : FVec Ideal S12288x32 .f32) (j : S7168x32.Idx) :
    (REF X S T j : EReal) = ∑ x : Fin 12288, (T (ix2 x (j 1)) * S (ix2 x 0) * X (ix2 x (j 0)) * 2 : EReal) := by
  pointwise [Cert.DaReferenceIdeal.Gen.k0_pay1]
  rw [two, mul_comm, sum_mul_two]
  refine Finset.sum_congr rfl fun x _ => ?_
  rw [mul_comm (X _), mul_comm (S _)]

end Cert.DaReferenceIdeal.Value

/-! ## The kernel -/

namespace Cert.DaIdeal.Value

open Cert.DaIdeal Cert.DaIdeal.Gen

/-- One block's product: the three parts of the split of a finite `t · x_scale` are the value itself and two zeros. -/
theorem pay1 (T : Vec Ideal S512x32 .f32) (S : Vec Ideal S512x1 .f32) (X : Vec Ideal S512x7168 .fp8e4m3) (j : S32x7168.Idx)
    (hT : ∀ i, Fin' (T i)) (hS : ∀ i, Fin' (S i)) :
    (k0_pay1 T S X j : EReal) = ∑ x : Fin 512, (T (ix2 x (j 0)) * S (ix2 x 0) * X (ix2 x (j 1)) * 2 : EReal) := by
  have hz : ∀ a b, (T a * S b : EReal) - T a * S b = 0 := fun a b => ((hT a).mul (hS b)).sub_self
  have h0 : ¬ (64 + (j 0 : ℕ) < 32) := by omega
  have h1 : ¬ (64 + (j 0 : ℕ) - 32 < 32) := by omega
  pointwise [k0_pay1]
  simp only [hz, dif_neg h0, dif_neg h1, zero_mul, sub_zero, Finset.sum_const_zero, add_zero]
  rw [two, sum_mul_two]

/-- A later block adds its product to what is there. -/
theorem pay2 (T : Vec Ideal S512x32 .f32) (S : Vec Ideal S512x1 .f32) (X : Vec Ideal S512x7168 .fp8e4m3) (Y : Vec Ideal S32x7168 .f32)
    (j : S32x7168.Idx) : (k0_pay2 T S X Y j : EReal) = Y j + k0_pay1 T S X j := by
  pointwise [k0_pay2]

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The first block's contents. -/
theorem outs_first (c : Dev nD) (t : Fin cfg0.N) (h : t.val % 24 = 0) (j : S32x7168.Idx) :
    (outsAt0 m c t.val t.isLt j : EReal) = k0_pay1 (iblk m c 2 t) (iblk m c 1 t) (iblk m c 0 t) j := by
  have hN : t.val < 24 := lt_of_lt_of_eq t.isLt (show cfg0.N = 24 from N_0)
  rw [outsAt0_A m c t h (by omega)]; frame_out

/-- A later block's contents, over those the point before left. -/
theorem outs_next (c : Dev nD) (t : Fin cfg0.N) (h : ¬ t.val % 24 = 0) (j : S32x7168.Idx) :
    (outsAt0 m c t.val t.isLt j : EReal) = outsAt0 m c (t.val - 1) (Nat.lt_of_le_of_lt (Nat.sub_le _ _) t.isLt) j
      + k0_pay1 (iblk m c 2 t) (iblk m c 1 t) (iblk m c 0 t) j := by
  have hN : t.val < 24 := lt_of_lt_of_eq t.isLt (show cfg0.N = 24 from N_0)
  rw [outsAt0_B m c t h (by omega)]; frame_out
  exact pay2 _ _ _ _ j

/-- The kernel's accumulator after the last block is the reference's term, transposed. -/
theorem final (c : Dev nD) (hS : ∀ i, Fin' (V m c main_v1 i)) (hT : ∀ i, Fin' (m ((c : Thread nD τ).loc main_arg2) i)) :
    (dats m 0 c).arrAt 3 (cfgs 0).N
    = fun j : S32x7168.Idx => Cert.DaReferenceIdeal.Value.REF (V m c main_v0) (V m c main_v1) (m ((c : Thread nD τ).loc main_arg2)) (ix2 (j 1) (j 0)) := by
  refine (dats m 0 c).arrAt_eq_of_covers 3 _ (by decide +kernel) fun t hf y => ?_
  have ht : t.val / 24 = 0 := by
    have hN : t.val < 24 := lt_of_lt_of_eq t.isLt (show cfg0.N = 24 from N_0)
    omega
  have key : ∀ y : S32x7168.Idx, (outsAt0 m c t.val t.isLt y : EReal)
      = Cert.DaReferenceIdeal.Value.REF (V m c main_v0) (V m c main_v1) (m ((c : Thread nD τ).loc main_arg2)) (ix2 (y 1) (y 0)) := by
    intro y
    rw [Pipeline.eq_sum_fin_of_reset_step_apply_of_flush (M := EReal) (fun n h => outsAt0 m c n h) 24 (fun _ => (0 : EReal))
      (fun t j => k0_pay1 (iblk m c 2 t) (iblk m c 1 t) (iblk m c 0 t) j)
      (fun t h i => (outs_first m c t h i).trans (zero_add _).symm) (fun t h i => outs_next m c t h i) t ((flush0_3 t).mp hf) y]
    refine (zero_add _).trans ?_
    rw [Cert.DaReferenceIdeal.Value.ref]
    refine (Fin.sum_fin_congr fun s => pay1 _ _ _ y ?_ ?_).trans ?_
    · intro i; rw [show iblk m c 2 _ i = _ from rfl]; exact hT _
    · intro i; exact hS _
    refine Fin.sum_mul_add_congr fun s k hl => ?_
    blk_point [iblk, V, idx ⟨_, Pipeline.run_point_lt_of_flush t ((flush0_3 t).mp hf) s⟩]
  blk_simp
  rw [after0_3]
  refine (key _).trans ?_
  blk_point [idx t]

end Cert.DaIdeal.Value

end
-- ==== Proof.Da.Claim.lean ====
/- The `da` call and its reference end with the same result. -/
module

public import proofs.«01_k».proof.Defs
public import proofs.«01_k».proof.Proof.Da.Value
public import proofs.«01_k».proof.Proof.Gen.Pre_finite
public import Idealize.ShloMosaic.Lib.Claim

@[expose] public section

set_option maxRecDepth 16384

noncomputable section

open Idealize.ShloMosaic Idealize.ShloMosaic.TcCoe Idealize.SL.Sem
open Cert.Reals

namespace Cert.Proof

/-- The precondition, read: every scale and every entry of `t` is a real number. -/
theorem finite_read (X : FVec Ideal Cert.Pre_finite.S3x4096x7168 .fp8e4m3) (S : FVec Ideal Cert.Pre_finite.S3x4096 .f32)
    (T : FVec Ideal Cert.Pre_finite.S12288x32 .f32)
    (h : letI := Cert.Pre_finite.Gen.facts; Cert.Pre_finite.fn (F := Ideal) X S T = fun _ => 1#1) :
    (∀ i, Fin' (S i)) ∧ ∀ i, Fin' (T i) := by
  have h0 := congrFun h (fun a => a.elim0)
  obtain ⟨hs, ht⟩ := IntOp.andi_eq_one.mp h0
  exact ⟨fun i => fin_of_olt _ (Host.reduce_andi_all _ _ _ _ _ hs i), fun i => fin_of_olt _ (Host.reduce_andi_all _ _ _ _ _ ht i)⟩

/-- The host's reshapes before the two calls. -/
theorem da_v0 (m : (ℓ : Loc Cert.DaIdeal.nD Cert.DaIdeal.τ Cert.DaIdeal.sig) → Buf (Elt Ideal) ℓ) (c : Dev Cert.DaIdeal.nD) :
    Cert.DaIdeal.Gen.V m c Cert.DaIdeal.main_v0
      = shapeCast Cert.DaIdeal.S12288x7168 (m ((c.tc : Thread _ _).loc Cert.DaIdeal.main_arg0)) Cert.DaIdeal.Gen.shapeCasts_S3x4096x7168_S12288x7168 := by
  show StableHlo.after Cert.DaIdeal.Gen.hostOps0 _ _ = _
  open StableHlo in after_results
  rfl

theorem da_v1 (m : (ℓ : Loc Cert.DaIdeal.nD Cert.DaIdeal.τ Cert.DaIdeal.sig) → Buf (Elt Ideal) ℓ) (c : Dev Cert.DaIdeal.nD) :
    Cert.DaIdeal.Gen.V m c Cert.DaIdeal.main_v1
      = shapeCast Cert.DaIdeal.S12288x1 (m ((c.tc : Thread _ _).loc Cert.DaIdeal.main_arg1)) Cert.DaIdeal.Gen.shapeCasts_S3x4096_S12288x1 := by
  show StableHlo.after Cert.DaIdeal.Gen.hostOps0 _ _ = _
  open StableHlo in after_results
  rfl

theorem da_ref_v0 (m : (ℓ : Loc Cert.DaReferenceIdeal.nD Cert.DaReferenceIdeal.τ Cert.DaReferenceIdeal.sig) → Buf (Elt Ideal) ℓ)
    (c : Dev Cert.DaReferenceIdeal.nD) :
    Cert.DaReferenceIdeal.Gen.V m c Cert.DaReferenceIdeal.main_v0
      = shapeCast Cert.DaReferenceIdeal.S12288x7168 (m ((c.tc : Thread _ _).loc Cert.DaReferenceIdeal.main_arg0)) Cert.DaReferenceIdeal.Gen.shapeCasts_S3x4096x7168_S12288x7168 := by
  entry_read
  rfl

theorem da_ref_v1 (m : (ℓ : Loc Cert.DaReferenceIdeal.nD Cert.DaReferenceIdeal.τ Cert.DaReferenceIdeal.sig) → Buf (Elt Ideal) ℓ)
    (c : Dev Cert.DaReferenceIdeal.nD) :
    Cert.DaReferenceIdeal.Gen.V m c Cert.DaReferenceIdeal.main_v1
      = shapeCast Cert.DaReferenceIdeal.S12288x1 (m ((c.tc : Thread _ _).loc Cert.DaReferenceIdeal.main_arg1)) Cert.DaReferenceIdeal.Gen.shapeCasts_S3x4096_S12288x1 := by
  entry_read
  rfl

/-- What the host's transpose after the call leaves. -/
theorem da_tail (m : (ℓ : Loc Cert.DaIdeal.nD Cert.DaIdeal.τ Cert.DaIdeal.sig) → Buf (Elt Ideal) ℓ) (c : Dev Cert.DaIdeal.nD) :
    Pipeline.afterTail₀ Cert.DaIdeal.cfgs (Cert.DaIdeal.Gen.dats m) 0 (Cert.DaIdeal.Gen.V0 m) [Cert.DaIdeal.Gen.hostOps1] c Cert.DaIdeal.main_v3
      = transpose Cert.DaIdeal.S7168x32 [1, 0] ((Cert.DaIdeal.Gen.dats m 0 c).arrAt 3 (Cert.DaIdeal.cfgs 0).N)
          Cert.DaIdeal.Gen.transposes_S32x7168_S7168x32_1_0 := by
  unfold Pipeline.afterTail₀
  show StableHlo.after Cert.DaIdeal.Gen.hostOps1 _ _ = _
  open StableHlo in after_results
  exact congrArg (fun x => transpose Cert.DaIdeal.S7168x32 [1, 0] x Cert.DaIdeal.Gen.transposes_S32x7168_S7168x32_1_0)
    (Pipeline.withArrays_arr (Cert.DaIdeal.cfgs 0).spec (by decide) c _ _ 3)

/-- Both programs run, and from equal arguments the results are equal. -/
theorem da_algebraic : Cert.algebraic_DaIdeal_DaReferenceIdeal_pre_finite (hDaIdeal := Cert.DaIdeal.Gen.facts)
    (hDaReferenceIdeal := Cert.DaReferenceIdeal.Gen.facts) (hPre_finite := Cert.Pre_finite.Gen.facts) := by
  pair_intro
  · run_from Cert.DaIdeal.Gen.unchanged m g & Cert.DaIdeal.Gen.run_main m g
  · run_from Cert.DaReferenceIdeal.Gen.run_main m' g'
    obtain ⟨hS, hT⟩ := finite_read _ _ _ (hpre c)
    rw [da_tail, Cert.DaIdeal.Value.final m c (fun i => by rw [da_v1]; exact hS _) hT,
      Cert.DaReferenceIdeal.Value.final m' c, da_v0, da_v1, da_ref_v0, da_ref_v1, (hagree c).1, (hagree c).2.1, (hagree c).2.2]
    funext j
    pointwise

end Cert.Proof

end
-- ==== Proof.Main.Conds.lean ====
/- The branch conditions of the main call's body, in closed form over the grid points, and the names of its operands. -/
module

public import proofs.«01_k».proof.Proof.Gen.KernelIdeal.Frame
public import proofs.«01_k».proof.Proof.Gen.KernelIdeal.Loops
public import Idealize.ShloMosaic.Lib.Pipeline.ValueKit
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates . -/
abbrev cond0_0 (i : grid0.Coords) : Prop := (Scalar.cmpi .ne (Scalar.extui (Scalar.cmpi .eq (BitVec.ofNat 32 (i 1).val) 0#32)) 0#32) = 1#1
/-- It holds at the points ≡ 0 (mod 18) — by arithmetic of the point. -/
theorem hcond0_0 : ∀ t : Fin cfg0.N, cond0_0 (grid0.coords t) ↔ t.val % 18 = 0 :=
  (fun t => by
    have ht : t.val < 432 := Nat.lt_of_lt_of_eq t.isLt N_0
    have e0 : (grid0.coords t 0).val = t.val / 18 % 24 := Pipeline.Grid.coords_val t 0 (by decide) rfl
    have e1 : (grid0.coords t 1).val = t.val / 1 % 18 := Pipeline.Grid.coords_val t 1 (by decide) rfl
    simp only [cond0_0, e0, e1]
    word_cmp
   : ∀ t : Fin grid0.N, cond0_0 (grid0.coords t) ↔ t.val % 18 = 0)

/-- The condition of the body's `scf.if` 1 (`k0_h2`), from the grid coordinates . -/
abbrev cond0_1 (i : grid0.Coords) : Prop := k0_cond2 i = 1#1
/-- It holds at the points before point 18 — by arithmetic of the point. -/
theorem hcond0_1 : ∀ t : Fin cfg0.N, cond0_1 (grid0.coords t) ↔ t.val < 18 :=
  (fun t => by
    have ht : t.val < 432 := Nat.lt_of_lt_of_eq t.isLt N_0
    have e0 : (grid0.coords t 0).val = t.val / 18 % 24 := Pipeline.Grid.coords_val t 0 (by decide) rfl
    have e1 : (grid0.coords t 1).val = t.val / 1 % 18 := Pipeline.Grid.coords_val t 1 (by decide) rfl
    simp only [cond0_1, k0_cond2, e0, e1]
    word_cmp
   : ∀ t : Fin grid0.N, cond0_1 (grid0.coords t) ↔ t.val < 18)

/-- The condition of the body's `scf.if` 2 (`k0_h3`), from the grid coordinates . -/
abbrev cond0_2 (i : grid0.Coords) : Prop := k0_cond3 i = 1#1
/-- It holds at the points from point 18 on — decided over the grid. -/
theorem hcond0_2 : ∀ t : Fin cfg0.N, cond0_2 (grid0.coords t) ↔ 18 ≤ t.val :=
  (by decide +kernel : ∀ t : Fin grid0.N, cond0_2 (grid0.coords t) ↔ 18 ≤ t.val)

/-- The condition of the body's `scf.if` 3 (`k0_h4`), from the grid coordinates . -/
abbrev cond0_3 (i : grid0.Coords) : Prop := k0_cond4 i = 1#1
/-- It holds at the points ≡ 17 (mod 18) — by arithmetic of the point. -/
theorem hcond0_3 : ∀ t : Fin cfg0.N, cond0_3 (grid0.coords t) ↔ t.val % 18 = 17 :=
  (fun t => by
    have ht : t.val < 432 := Nat.lt_of_lt_of_eq t.isLt N_0
    have e0 : (grid0.coords t 0).val = t.val / 18 % 24 := Pipeline.Grid.coords_val t 0 (by decide) rfl
    have e1 : (grid0.coords t 1).val = t.val / 1 % 18 := Pipeline.Grid.coords_val t 1 (by decide) rfl
    simp only [cond0_3, k0_cond4, e0, e1]
    word_cmp
   : ∀ t : Fin grid0.N, cond0_3 (grid0.coords t) ↔ t.val % 18 = 17)

/-! ## The operands -/

/-- Each window's current staging memref at point `t`, spelled as the pipeline passes it (`bodyAt0`), and its wholeness. -/
abbrev ms0_0 (t : Fin cfg0.N) : Memref sig .tc .vmem S512x1024 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x7168 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x7168 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x32 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x18432 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x7168 .f32 := Memref.whole cc0_scratch0
abbrev scM0_1 : Memref sig .tc .vmem S32x512 .f32 := Memref.whole cc0_scratch1
abbrev scM0_2 : Memref sig .tc .vmem S512x1024 .bf16 := Memref.whole cc0_scratch2
abbrev scM0_3 : Memref sig .tc .vmem S96x512 .bf16 := Memref.whole cc0_scratch3
/-- The scratch `arg14` the kernel carries between points, as a view: what it holds is stated through it. -/
abbrev VS0_0 : View sig .tc .vmem S512x7168 .f32 := scM0_0.view
/-- The scratch `arg15` the kernel carries between points, as a view: what it holds is stated through it. -/
abbrev VS0_1 : View sig .tc .vmem S32x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Main.State.lean ====
/- What one grid point of the main call leaves in each buffer, as functions of the vectors it finds there. -/
module

public import proofs.«01_k».proof.Proof.Main.Conds
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two column loops of the last reduction step -/

theorem chunk_inb (k : Fin 14) : ∀ a, (![0, 512 * k.val] : Fin 2 → ℕ) a + S512x512.size a ≤ S512x7168.size a :=
  (by decide +kernel : ∀ k : Fin 14, ∀ a, (![0, 512 * k.val] : Fin 2 → ℕ) a + S512x512.size a ≤ S512x7168.size a) k

theorem chunkA_inb (k : Fin 14) : ∀ a, (![0, 512 * k.val] : Fin 2 → ℕ) a + S32x512.size a ≤ S32x7168.size a :=
  (by decide +kernel : ∀ k : Fin 14, ∀ a, (![0, 512 * k.val] : Fin 2 → ℕ) a + S32x512.size a ≤ S32x7168.size a) k

/-- Columns `512 k … 512 k + 511` of the adapter block. -/
def chunkA (x : Vec F S32x7168 .bf16) (k : Fin 14) : Vec F S32x512 .bf16 :=
  VecWindow.window x ![0, 512 * k.val] S32x512.size (chunkA_inb k)

/-- Columns `512 k … 512 k + 511` of the accumulator. -/
def chunk (x : Vec F S512x7168 .f32) (k : Fin 14) : Vec F S512x512 .f32 :=
  VecWindow.window x ![0, 512 * k.val] S512x512.size (chunk_inb k)

/-- The accumulator after the first `n` column chunks were finished (scaled and given the adapter's term). -/
def dxAcc (v54 : Vec F S512x1 .f32) (v56 : Vec F S32x512 .f32) (x7 : Vec F S32x7168 .bf16) (a : Vec F S512x7168 .f32) : ℕ → Vec F S512x7168 .f32
  | 0 => a
  | n + 1 => if h : n < 14 then
      VecWindow.put (dxAcc v54 v56 x7 a n) ![0, 512 * n] S512x512.size (k0_pay12 v54 v56 (chunkA x7 ⟨n, h⟩) (chunk (dxAcc v54 v56 x7 a n) ⟨n, h⟩))
    else dxAcc v54 v56 x7 a n

/-- The running row maxima of the finished chunks. -/
def amaxRec (v54 : Vec F S512x1 .f32) (v56 : Vec F S32x512 .f32) (x7 : Vec F S32x7168 .bf16) (a : Vec F S512x7168 .f32) : ℕ → FVec F S512x1 .f32
  | 0 => k0_pay10
  | n + 1 => if h : n < 14 then
      k0_pay13 v54 v56 (amaxRec v54 v56 x7 a n) (chunkA x7 ⟨n, h⟩) (chunk (dxAcc v54 v56 x7 a n) ⟨n, h⟩)
    else amaxRec v54 v56 x7 a n

/-- The bf16 result after `n` chunks were written over `x`. -/
def dxOut (d : Vec F S512x7168 .f32) (x : Vec F S512x7168 .bf16) : ℕ → Vec F S512x7168 .bf16
  | 0 => x
  | n + 1 => if h : n < 14 then VecWindow.put (dxOut d x n) ![0, 512 * n] S512x512.size (k0_pay6 (chunk d ⟨n, h⟩)) else dxOut d x n

/-- The codes after `n` chunks were written over `x`. -/
def codesOut (v88 : IVec S512x1 1) (v92 : IVec S512x1 32) (d : Vec F S512x7168 .f32) (x : Vec F S512x7168 .fp8e5m2) : ℕ → Vec F S512x7168 .fp8e5m2
  | 0 => x
  | n + 1 => if h : n < 14 then VecWindow.put (codesOut v88 v92 d x n) ![0, 512 * n] S512x512.size (k0_pay7 v88 v92 126#32 (chunk d ⟨n, h⟩)) else codesOut v88 v92 d x n

theorem trips1 : k0_t1_loop.trips = 14 := by decide
theorem trips2 : k0_t2_loop.trips = 14 := by decide

section Closed

variable {c : Dev nD} {i : grid0.Coords} {arg2 : Memref sig .tc .vmem S512x1024 .fp8e5m2} {harg2 : arg2.IsWhole} {arg3 : Memref sig .tc .vmem S512x1 .f32} {harg3 : arg3.IsWhole} {arg4 : Memref sig .tc .vmem S7168x1024 .fp8e4m3} {harg4 : arg4.IsWhole} {arg5 : Memref sig .tc .vmem S1x1024 .f32} {harg5 : arg5.IsWhole} {arg6 : Memref sig .tc .vmem S32x1024 .bf16} {harg6 : arg6.IsWhole} {arg7 : Memref sig .tc .vmem S32x7168 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S512x7168 .fp8e5m2} {harg10 : arg10.IsWhole} {arg11 : Memref sig .tc .vmem S512x1 .f32} {harg11 : arg11.IsWhole} {arg12 : Memref sig .tc .vmem S512x32 .f32} {harg12 : arg12.IsWhole} {arg13 : Memref sig .tc .vmem S32x18432 .f32} {harg13 : arg13.IsWhole} {arg14 : Memref sig .tc .vmem S512x7168 .f32} {harg14 : arg14.IsWhole} {arg15 : Memref sig .tc .vmem S32x512 .f32} {harg15 : arg15.IsWhole} {arg16 : Memref sig .tc .vmem S512x1024 .bf16} {harg16 : arg16.IsWhole} {arg17 : Memref sig .tc .vmem S96x512 .bf16} {harg17 : arg17.IsWhole}

theorem trip1_R (h4 : k0_cond4 i = 1#1) (v54 : Vec F S512x1 .f32) (v56 : Vec F S32x512 .f32) (X7 : BufTy.Contents (Elt F) arg7.view.ty) (k : Fin k0_t1_loop.trips) (acc : FVec F S512x1 .f32) (f : BufTy.Contents (Elt F) arg14.view.ty) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 k acc f
      = k0_pay13 v54 v56 acc (arg7.view.readAt (Elt F) (Rect.unit (s := S32x7168) (k0_off3 k) S32x512.size (k0_off3_inb i k h4)).toLoadRect X7)
          (arg14.view.readAt (Elt F) (Rect.unit (s := S512x7168) (k0_off4 k) S512x512.size (k0_off4_inb i k h4)).toLoadRect f) := by
  unfold tripR_k0_t1 trip_k0_t1; frame_open; rfl

theorem trip1_L (h4 : k0_cond4 i = 1#1) (v54 : Vec F S512x1 .f32) (v56 : Vec F S32x512 .f32) (X7 : BufTy.Contents (Elt F) arg7.view.ty) (k : Fin k0_t1_loop.trips) (acc : FVec F S512x1 .f32) (f : BufTy.Contents (Elt F) arg14.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 k acc f
      = [⟨Rect.unit (s := S512x7168) (k0_off4 k) S512x512.size (k0_off4_inb i k h4), k0_pay12 v54 v56 (arg7.view.readAt (Elt F) (Rect.unit (s := S32x7168) (k0_off3 k) S32x512.size (k0_off3_inb i k h4)).toLoadRect X7)
          (arg14.view.readAt (Elt F) (Rect.unit (s := S512x7168) (k0_off4 k) S512x512.size (k0_off4_inb i k h4)).toLoadRect f)⟩] := by
  unfold tripL_k0_t1 trip_k0_t1; frame_open; rfl

/-- The first loop in closed form: what it carries and what it leaves in the accumulator. -/
theorem st_closed (h4 : k0_cond4 i = 1#1) (v54 : Vec F S512x1 .f32) (v56 : Vec F S32x512 .f32) (X7 : BufTy.Contents (Elt F) arg7.view.ty) (G : BufTy.Contents (Elt F) arg14.view.ty) :
    ∀ n ≤ 14, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 n).1 = amaxRec v54 v56 (arg7.view.read (Elt F) X7) (arg14.view.read (Elt F) G) n
      ∧ arg14.view.read (Elt F) (arg14.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 n).2)
          = dxAcc v54 v56 (arg7.view.read (Elt F) X7) (arg14.view.read (Elt F) G) n := by
  intro n
  induction n with
  | zero => exact fun _ => ⟨rfl, rfl⟩
  | succ n ih =>
    intro hn
    obtain ⟨ih1, ih2⟩ := ih (by omega)
    have hn' : n < 14 := by omega
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 ⟨n, by rw [trips1]; exact hn'⟩
    have e3 : k0_off3 ⟨n, by rw [trips1]; exact hn'⟩ = ![0, 512 * n] := k0_off3_eq _
    have e4 : k0_off4 ⟨n, by rw [trips1]; exact hn'⟩ = ![0, 512 * n] := k0_off4_eq _
    have r7 := View.readAt_unit (Val := Elt F) arg7.view X7 (k0_off3_inb i ⟨n, by rw [trips1]; exact hn'⟩ h4) e3 (chunkA_inb ⟨n, hn'⟩)
    have r14 := fun f => View.readAt_unit (Val := Elt F) arg14.view f (k0_off4_inb i ⟨n, by rw [trips1]; exact hn'⟩ h4) e4 (chunk_inb ⟨n, hn'⟩)
    simp only at hs
    rw [hs, trip1_R, trip1_L, ih1, r7, r14, ih2]
    constructor
    · show _ = (if h : n < 14 then _ else _); rw [dif_pos hn']; rfl
    · rw [List.singleton_append, View.read_writes_cons_put _ _ _ _ _ e4, ih2]
      show _ = (if h : n < 14 then _ else _); rw [dif_pos hn']; rfl

theorem trip2_L (h4 : k0_cond4 i = 1#1) (v88 : IVec S512x1 1) (v92 : IVec S512x1 32) (w : BitVec 32) (X14 : BufTy.Contents (Elt F) arg14.view.ty) (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 w X14 k
      = ([⟨Rect.unit (s := S512x7168) (k0_off5 k) S512x512.size (k0_off5_inb i k h4), k0_pay6 (arg14.view.readAt (Elt F) (Rect.unit (s := S512x7168) (k0_off5 k) S512x512.size (k0_off5_inb i k h4)).toLoadRect X14)⟩],
         [⟨Rect.unit (s := S512x7168) (k0_off5 k) S512x512.size (k0_off5_inb i k h4), k0_pay7 v88 v92 w (arg14.view.readAt (Elt F) (Rect.unit (s := S512x7168) (k0_off5 k) S512x512.size (k0_off5_inb i k h4)).toLoadRect X14)⟩]) := by
  unfold tripL_k0_t2 trip_k0_t2; frame_open; rfl

/-- The second loop in closed form: the bf16 result and the codes. -/
theorem pb_closed (h4 : k0_cond4 i = 1#1) (v88 : IVec S512x1 1) (v92 : IVec S512x1 32) (X14 : BufTy.Contents (Elt F) arg14.view.ty) (G9 : BufTy.Contents (Elt F) arg9.view.ty) (G10 : BufTy.Contents (Elt F) arg10.view.ty) :
    ∀ n ≤ 14, arg9.view.read (Elt F) (arg9.view.writes (Elt F) G9 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 n).1)
        = dxOut (arg14.view.read (Elt F) X14) (arg9.view.read (Elt F) G9) n
      ∧ arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 n).2)
        = codesOut v88 v92 (arg14.view.read (Elt F) X14) (arg10.view.read (Elt F) G10) n := by
  intro n
  induction n with
  | zero => exact fun _ => ⟨rfl, rfl⟩
  | succ n ih =>
    intro hn
    obtain ⟨ih1, ih2⟩ := ih (by omega)
    have hn' : n < 14 := by omega
    have hs := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 ⟨n, by rw [trips2]; exact hn'⟩
    have e5 : k0_off5 ⟨n, by rw [trips2]; exact hn'⟩ = ![0, 512 * n] := k0_off5_eq _
    have r14 := fun f => View.readAt_unit (Val := Elt F) arg14.view f (k0_off5_inb i ⟨n, by rw [trips2]; exact hn'⟩ h4) e5 (chunk_inb ⟨n, hn'⟩)
    rw [trip2_L] at hs
    simp only at hs
    rw [hs, r14]
    constructor
    · rw [List.singleton_append, View.read_writes_cons_put _ _ _ _ _ e5, ih1]
      show _ = (if h : n < 14 then _ else _); rw [dif_pos hn']; rfl
    · simp only [List.singleton_append]
      rw [View.read_writes_cons_put _ _ _ _ _ e5, ih2]
      show _ = (if h : n < 14 then _ else _); rw [dif_pos hn']; rfl

end Closed

/-! ## One grid point -/

/-- The accumulator, the adapter accumulator and the split adapter input a point starts from: cleared, or made, at the first reduction step. -/
def acc0 (i : grid0.Coords) (x14 : Vec F S512x7168 .f32) : Vec F S512x7168 .f32 := if cond0_0 i then k0_pay17 else x14
def tac0 (i : grid0.Coords) (x15 : Vec F S32x512 .f32) : Vec F S32x512 .f32 := if cond0_0 i then k0_pay18 else x15
def xat1 (i : grid0.Coords) (x8 : Vec F S512x32 .f32) (x3 : Vec F S512x1 .f32) (x17 : Vec F S96x512 .bf16) : Vec F S96x512 .bf16 :=
  if cond0_0 i then k0_pay19 x8 x3 else x17

/-- The accumulator after the point's product. -/
def acc1 (i : grid0.Coords) (x2 : Vec F S512x1024 .fp8e5m2) (x4 : Vec F S7168x1024 .fp8e4m3) (x5 : Vec F S1x1024 .f32) (x14 : Vec F S512x7168 .f32) : Vec F S512x7168 .f32 :=
  k0_pay21 (acc0 i x14) (k0_pay20 x2 x5) x4

/-- The adapter accumulator after the point's product. -/
def tac1 (i : grid0.Coords) (x2 : Vec F S512x1024 .fp8e5m2) (x6 : Vec F S32x1024 .bf16) (x15 : Vec F S32x512 .f32) : Vec F S32x512 .f32 :=
  k0_pay1 (k0_pay22 (tac0 i x15) x6 x2)

theorem db_inb (i : grid0.Coords) : ∀ a, (![0, 1024 * (i 1).val] : Fin 2 → ℕ) a + S32x1024.size a ≤ S32x18432.size a := by
  have h : (i 1).val < 18 := (i 1).isLt
  intro a; fin_cases a
  · exact Nat.le_refl 32
  · show 1024 * (i 1).val + 1024 ≤ 18432; omega

/-- The gradient's columns the point adds to. -/
def dbOld (i : grid0.Coords) (x13 : Vec F S32x18432 .f32) : Vec F S32x1024 .f32 :=
  VecWindow.window x13 ![0, 1024 * (i 1).val] S32x1024.size (db_inb i)

/-- The gradient after the point: its columns set by the first row block, added to by the later ones. -/
def db1 (i : grid0.Coords) (x2 : Vec F S512x1024 .fp8e5m2) (xat : Vec F S96x512 .bf16) (x13 : Vec F S32x18432 .f32) : Vec F S32x18432 .f32 :=
  VecWindow.put x13 ![0, 1024 * (i 1).val] S32x1024.size (if cond0_1 i then k0_pay2 xat x2 else k0_pay3 xat x2 (dbOld i x13))

/-- What the last reduction step writes, from the finished accumulators `a`, `t` of the point. -/
def dxF (x3 : Vec F S512x1 .f32) (x7 : Vec F S32x7168 .bf16) (a : Vec F S512x7168 .f32) (t : Vec F S32x512 .f32) : Vec F S512x7168 .f32 := dxAcc x3 t x7 a 14
def amaxF (x3 : Vec F S512x1 .f32) (x7 : Vec F S32x7168 .bf16) (a : Vec F S512x7168 .f32) (t : Vec F S32x512 .f32) : FVec F S512x1 .f32 := amaxRec x3 t x7 a 14
def scaleF (x3 : Vec F S512x1 .f32) (x7 : Vec F S32x7168 .bf16) (a : Vec F S512x7168 .f32) (t : Vec F S32x512 .f32) : Vec F S512x1 .f32 :=
  k0_pay5 (k0_pay15 (amaxF x3 x7 a t)) (k0_pay16 (amaxF x3 x7 a t)) 126#32
def codesF (x3 : Vec F S512x1 .f32) (x7 : Vec F S32x7168 .bf16) (a : Vec F S512x7168 .f32) (t : Vec F S32x512 .f32) (x10 : Vec F S512x7168 .fp8e5m2) : Vec F S512x7168 .fp8e5m2 :=
  codesOut (k0_pay15 (amaxF x3 x7 a t)) (k0_pay16 (amaxF x3 x7 a t)) (dxF x3 x7 a t) x10 14

end Cert.KernelIdeal.Hand

end
-- ==== Proof.Main.Full.lean ====
/- Whole-buffer loads and stores read back, and the two loops at their last trip: the rewriting that opens a grid point's run. -/
module

public import proofs.«01_k».proof.Proof.Main.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Views

variable {sig' : RefSig} {κ : Kind} {sp : Space} {S : Shape} {e : EltTy} {Val : EltTy → Type}

theorem full_readAt (v : View sig' κ sp S e) (f : v.ty.Contents Val) {off : Fin S.rank → ℕ} (inb : ∀ a, off a + S.size a ≤ S.size a) :
    v.readAt Val (Rect.unit off (no_index S.size) inb).toLoadRect f = v.read Val f := View.readAt_full v f inb

theorem full_writes (v : View sig' κ sp S e) (f : v.ty.Contents Val) {off : Fin S.rank → ℕ} (inb : ∀ a, off a + S.size a ≤ S.size a)
    (w : S.Idx → Val e) (L : List (View.Piece Val S e)) :
    v.read Val (v.writes Val f ((⟨Rect.unit off (no_index S.size) inb, w⟩ : View.Piece Val S e) :: L)) = w := View.read_writes_full v f inb w L

theorem full_cov [∀ e, Nonempty (Val e)] (v : View sig' κ sp S e) {off off' : Fin S.rank → ℕ} (inb : ∀ a, off a + S.size a ≤ S.size a)
    (inb' : ∀ a, off' a + S.size a ≤ S.size a) (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

end Views

theorem trips1' : Scf.trips k0_t1_loop.lb k0_t1_loop.ub k0_t1_loop.st = 14 := trips1
theorem trips0' : Scf.trips (0#32) (Scalar.addi 0#32 14#32) 1#32 = 14 := trips1
theorem trips2' : Scf.trips k0_t2_loop.lb k0_t2_loop.ub k0_t2_loop.st = 14 := trips2

section Closed

variable {c : Dev nD} {i : grid0.Coords} {arg2 : Memref sig .tc .vmem S512x1024 .fp8e5m2} {harg2 : arg2.IsWhole} {arg3 : Memref sig .tc .vmem S512x1 .f32} {harg3 : arg3.IsWhole} {arg4 : Memref sig .tc .vmem S7168x1024 .fp8e4m3} {harg4 : arg4.IsWhole} {arg5 : Memref sig .tc .vmem S1x1024 .f32} {harg5 : arg5.IsWhole} {arg6 : Memref sig .tc .vmem S32x1024 .bf16} {harg6 : arg6.IsWhole} {arg7 : Memref sig .tc .vmem S32x7168 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S512x7168 .fp8e5m2} {harg10 : arg10.IsWhole} {arg11 : Memref sig .tc .vmem S512x1 .f32} {harg11 : arg11.IsWhole} {arg12 : Memref sig .tc .vmem S512x32 .f32} {harg12 : arg12.IsWhole} {arg13 : Memref sig .tc .vmem S32x18432 .f32} {harg13 : arg13.IsWhole} {arg14 : Memref sig .tc .vmem S512x7168 .f32} {harg14 : arg14.IsWhole} {arg15 : Memref sig .tc .vmem S32x512 .f32} {harg15 : arg15.IsWhole} {arg16 : Memref sig .tc .vmem S512x1024 .bf16} {harg16 : arg16.IsWhole} {arg17 : Memref sig .tc .vmem S96x512 .bf16} {harg17 : arg17.IsWhole}

theorem st_fst (h4 : k0_cond4 i = 1#1) (v54 : Vec F S512x1 .f32) (v56 : Vec F S32x512 .f32) (X7 : BufTy.Contents (Elt F) arg7.view.ty) (G : BufTy.Contents (Elt F) arg14.view.ty) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).1 = amaxRec v54 v56 (arg7.view.read (Elt F) X7) (arg14.view.read (Elt F) G) 14 :=
  (st_closed h4 v54 v56 X7 G 14 (le_refl _)).1

theorem st_snd (h4 : k0_cond4 i = 1#1) (v54 : Vec F S512x1 .f32) (v56 : Vec F S32x512 .f32) (X7 : BufTy.Contents (Elt F) arg7.view.ty) (G : BufTy.Contents (Elt F) arg14.view.ty) :
    arg14.view.read (Elt F) (arg14.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).2)
      = dxAcc v54 v56 (arg7.view.read (Elt F) X7) (arg14.view.read (Elt F) G) 14 :=
  (st_closed h4 v54 v56 X7 G 14 (le_refl _)).2

theorem pb_fst (h4 : k0_cond4 i = 1#1) (v88 : IVec S512x1 1) (v92 : IVec S512x1 32) (X14 : BufTy.Contents (Elt F) arg14.view.ty) (G9 : BufTy.Contents (Elt F) arg9.view.ty) :
    arg9.view.read (Elt F) (arg9.view.writes (Elt F) G9 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 14).1)
      = dxOut (arg14.view.read (Elt F) X14) (arg9.view.read (Elt F) G9) 14 :=
  (pb_closed h4 v88 v92 X14 G9 (arg10.view.junk) 14 (le_refl _)).1

theorem pb_snd (h4 : k0_cond4 i = 1#1) (v88 : IVec S512x1 1) (v92 : IVec S512x1 32) (X14 : BufTy.Contents (Elt F) arg14.view.ty) (G10 : BufTy.Contents (Elt F) arg10.view.ty) :
    arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 14).2)
      = codesOut v88 v92 (arg14.view.read (Elt F) X14) (arg10.view.read (Elt F) G10) 14 :=
  (pb_closed h4 v88 v92 X14 (arg9.view.junk) G10 14 (le_refl _)).2

end Closed

end Cert.KernelIdeal.Hand

end
-- ==== Proof.Main.RunA.lean ====
/- The main call's body at the first reduction step of the first row block. -/
module

public import proofs.«01_k».proof.Proof.Main.Full

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first reduction step of the first row block: what it leaves in each buffer. -/
theorem runA (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : cond0_0 i) (hc1 : cond0_1 i) (hc2 : ¬cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_pos hc0, if_pos hc1, if_neg hc3]
  isplitl [H10]
  · iexists _; isplitr; swap; · iexact H10
    ipureintro
    frame_open
    simp only [full_readAt, full_writes, full_cov, Memref.IsWhole.read_unread, acc0, acc1, tac0, tac1, xat1, db1, dbOld, if_pos hc0, if_pos hc1, if_neg hc3]
  isplitl [H11]
  · iexists _; isplitr; swap; · iexact H11
    ipureintro
    frame_open
    simp only [full_readAt, full_writes, full_cov, Memref.IsWhole.read_unread, acc0, acc1, tac0, tac1, xat1, db1, dbOld, if_pos hc0, if_pos hc1, if_neg hc3]
  isplitl [H12]
  · iexists _; isplitr; swap; · iexact H12
    ipureintro
    frame_open
    simp only [full_readAt, full_writes, full_cov, Memref.IsWhole.read_unread, acc0, acc1, tac0, tac1, xat1, db1, dbOld, if_pos hc0, if_pos hc1, if_neg hc3]
  isplitl [H13]
  · iexists _; isplitr; swap; · iexact H13
    ipureintro
    frame_open
    refine (View.read_writes_cons_put _ _ _ _ _ (k0_off1_eq i)).trans ?_
    simp only [View.writes_nil, full_readAt, full_writes, full_cov, Memref.IsWhole.read_unread, acc0, acc1, tac0, tac1, xat1, db1, dbOld, if_pos hc0, if_pos hc1, if_neg hc3]
  isplitl [H14]
  · iexists _; isplitr; swap; · iexact H14
    ipureintro
    frame_open
    simp only [full_readAt, full_writes, full_cov, Memref.IsWhole.read_unread, acc0, acc1, tac0, tac1, xat1, db1, dbOld, if_pos hc0, if_pos hc1, if_neg hc3]
  isplitl [H15]
  · iexists _; isplitr; swap; · iexact H15
    ipureintro
    frame_open
    simp only [full_readAt, full_writes, full_cov, Memref.IsWhole.read_unread, acc0, acc1, tac0, tac1, xat1, db1, dbOld, if_pos hc0, if_pos hc1, if_neg hc3]
  isplitl [H16]
  · iexists _; isplitr; swap; · iexact H16
    ipureintro
    frame_open
    simp only [full_readAt, full_writes, full_cov, Memref.IsWhole.read_unread, acc0, acc1, tac0, tac1, xat1, db1, dbOld, if_pos hc0, if_pos hc1, if_neg hc3]
  iexists _; isplitr; swap; · iexact H17
  ipureintro
  frame_open
  simp only [full_readAt, full_writes, full_cov, Memref.IsWhole.read_unread, acc0, acc1, tac0, tac1, xat1, db1, dbOld, if_pos hc0, if_pos hc1, if_neg hc3]

end Cert.KernelIdeal.Hand

end
-- ==== Proof.Main.RunB.lean ====
/- The main call's body at the middle reduction step of the first row block. -/
module

public import proofs.«01_k».proof.Proof.Main.Full

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the middle reduction step of the first row block: what it leaves in each buffer. -/
theorem runB (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : cond0_1 i) (hc2 : ¬cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_neg hc0, if_pos hc1, if_neg hc3]
  isplitl [H10]
  · iexists _; isplitr; swap; · iexact H10
    ipureintro
    frame_open
    simp only [full_readAt, full_writes, full_cov, Memref.IsWhole.read_unread, acc0, acc1, tac0, tac1, xat1, db1, dbOld, if_neg hc0, if_pos hc1, if_neg hc3]
  isplitl [H11]
  · iexists _; isplitr; swap; · iexact H11
    ipureintro
    frame_open
    simp only [full_readAt, full_writes, full_cov, Memref.IsWhole.read_unread, acc0, acc1, tac0, tac1, xat1, db1, dbOld, if_neg hc0, if_pos hc1, if_neg hc3]
  isplitl [H12]
  · iexists _; isplitr; swap; · iexact H12
    ipureintro
    frame_open
    simp only [full_readAt, full_writes, full_cov, Memref.IsWhole.read_unread, acc0, acc1, tac0, tac1, xat1, db1, dbOld, if_neg hc0, if_pos hc1, if_neg hc3]
  isplitl [H13]
  · iexists _; isplitr; swap; · iexact H13
    ipureintro
    frame_open
    refine (View.read_writes_cons_put _ _ _ _ _ (k0_off1_eq i)).trans ?_
    simp only [View.writes_nil, full_readAt, full_writes, full_cov, Memref.IsWhole.read_unread, acc0, acc1, tac0, tac1, xat1, db1, dbOld, if_neg hc0, if_pos hc1, if_neg hc3]
  isplitl [H14]
  · iexists _; isplitr; swap; · iexact H14
    ipureintro
    frame_open
    simp only [full_readAt, full_writes, full_cov, Memref.IsWhole.read_unread, acc0, acc1, tac0, tac1, xat1, db1, dbOld, if_neg hc0, if_pos hc1, if_neg hc3]
  isplitl [H15]
  · iexists _; isplitr; swap; · iexact H15
    ipureintro
    frame_open
    simp only [full_readAt, full_writes, full_cov, Memref.IsWhole.read_unread, acc0, acc1, tac0, tac1, xat1, db1, dbOld, if_neg hc0, if_pos hc1, if_neg hc3]
  isplitl [H16]
  · iexists _; isplitr; swap; · iexact H16
    ipureintro
    frame_open
    simp only [full_readAt, full_writes, full_cov, Memref.IsWhole.read_unread, acc0, acc1, tac0, tac1, xat1, db1, dbOld, if_neg hc0, if_pos hc1, if_neg hc3]
  iexists _; isplitr; swap; · iexact H17
  ipureintro
  frame_open
  simp only [full_readAt, full_writes, full_cov, Memref.IsWhole.read_unread, acc0, acc1, tac0, tac1, xat1, db1, dbOld, if_neg hc0, if_pos hc1, if_neg hc3]

end Cert.KernelIdeal.Hand

end
-- ==== Proof.Main.FullB.lean ====
/- Whole-buffer loads and stores read back, and the two loops at their last trip: the rewriting that opens a grid point's run. -/
module

public import proofs.«01_k».proof.Proof.Main.Full

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Closed

variable {c : Dev nD} {i : grid0.Coords} {arg2 : Memref sig .tc .vmem S512x1024 .fp8e5m2} {harg2 : arg2.IsWhole} {arg3 : Memref sig .tc .vmem S512x1 .f32} {harg3 : arg3.IsWhole} {arg4 : Memref sig .tc .vmem S7168x1024 .fp8e4m3} {harg4 : arg4.IsWhole} {arg5 : Memref sig .tc .vmem S1x1024 .f32} {harg5 : arg5.IsWhole} {arg6 : Memref sig .tc .vmem S32x1024 .bf16} {harg6 : arg6.IsWhole} {arg7 : Memref sig .tc .vmem S32x7168 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S512x7168 .fp8e5m2} {harg10 : arg10.IsWhole} {arg11 : Memref sig .tc .vmem S512x1 .f32} {harg11 : arg11.IsWhole} {arg12 : Memref sig .tc .vmem S512x32 .f32} {harg12 : arg12.IsWhole} {arg13 : Memref sig .tc .vmem S32x18432 .f32} {harg13 : arg13.IsWhole} {arg14 : Memref sig .tc .vmem S512x7168 .f32} {harg14 : arg14.IsWhole} {arg15 : Memref sig .tc .vmem S32x512 .f32} {harg15 : arg15.IsWhole} {arg16 : Memref sig .tc .vmem S512x1024 .bf16} {harg16 : arg16.IsWhole} {arg17 : Memref sig .tc .vmem S96x512 .bf16} {harg17 : arg17.IsWhole}

theorem st_fst' (h4 : cond0_3 i) (v54 : Vec F S512x1 .f32) (v56 : Vec F S32x512 .f32) (X7 : BufTy.Contents (Elt F) arg7.view.ty) (G : BufTy.Contents (Elt F) arg14.view.ty) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).1 = amaxRec v54 v56 (arg7.view.read (Elt F) X7) (arg14.view.read (Elt F) G) 14 :=
  (st_closed h4 v54 v56 X7 G 14 (le_refl _)).1

theorem st_snd' (h4 : cond0_3 i) (v54 : Vec F S512x1 .f32) (v56 : Vec F S32x512 .f32) (X7 : BufTy.Contents (Elt F) arg7.view.ty) (G : BufTy.Contents (Elt F) arg14.view.ty) :
    arg14.view.read (Elt F) (arg14.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).2)
      = dxAcc v54 v56 (arg7.view.read (Elt F) X7) (arg14.view.read (Elt F) G) 14 :=
  (st_closed h4 v54 v56 X7 G 14 (le_refl _)).2

theorem pb_fst' (h4 : cond0_3 i) (v88 : IVec S512x1 1) (v92 : IVec S512x1 32) (X14 : BufTy.Contents (Elt F) arg14.view.ty) (G9 : BufTy.Contents (Elt F) arg9.view.ty) :
    arg9.view.read (Elt F) (arg9.view.writes (Elt F) G9 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 (126#32) X14 14).1)
      = dxOut (arg14.view.read (Elt F) X14) (arg9.view.read (Elt F) G9) 14 :=
  (pb_closed h4 v88 v92 X14 G9 (arg10.view.junk) 14 (le_refl _)).1

theorem pb_snd' (h4 : cond0_3 i) (v88 : IVec S512x1 1) (v92 : IVec S512x1 32) (X14 : BufTy.Contents (Elt F) arg14.view.ty) (G10 : BufTy.Contents (Elt F) arg10.view.ty) :
    arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 (126#32) X14 14).2)
      = codesOut v88 v92 (arg14.view.read (Elt F) X14) (arg10.view.read (Elt F) G10) 14 :=
  (pb_closed h4 v88 v92 X14 (arg9.view.junk) G10 14 (le_refl _)).2

end Closed

end Cert.KernelIdeal.Hand

end
-- ==== Proof.Main.RunC.lean ====
/- The main call's body at the last reduction step of the first row block. -/
module

public import proofs.«01_k».proof.Proof.Main.FullB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last reduction step of the first row block: what it leaves in each buffer. -/
theorem runC (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : cond0_1 i) (hc2 : ¬cond0_2 i) (hc3 : cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [pb_fst', st_snd']
    simp only [full_readAt, full_writes, full_cov, Memref.IsWhole.read_unread]
  isplitl [H10]
  · iexists _; isplitr; swap; · iexact H10
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [pb_snd', st_fst', st_snd']
    simp only [full_readAt, full_writes, full_cov, Memref.IsWhole.read_unread]
  isplitl [H11]
  · iexists _; isplitr; swap; · iexact H11
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [st_fst']
    simp only [full_readAt, full_writes, full_cov, Memref.IsWhole.read_unread]
  isplitl [H12]
  · iexists _; isplitr; swap; · iexact H12
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
  isplitl [H13]
  · iexists _; isplitr; swap; · iexact H13
    ipureintro
    frame_open
    refine (View.read_writes_cons_put _ _ _ _ _ (k0_off1_eq i)).trans ?_
    simp only [View.writes_nil, full_readAt, full_writes, full_cov, Memref.IsWhole.read_unread, acc0, acc1, tac0, tac1, xat1, db1, dbOld, scaleF, codesF, dxF, amaxF, if_neg hc0, if_pos hc1, if_pos hc3]
  isplitl [H14]
  · iexists _; isplitr; swap; · iexact H14
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [st_snd']
    simp only [full_readAt, full_writes, full_cov, Memref.IsWhole.read_unread]
  isplitl [H15]
  · iexists _; isplitr; swap; · iexact H15
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
  isplitl [H16]
  · iexists _; isplitr; swap; · iexact H16
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
  iexists _; isplitr; swap; · iexact H17
  ipureintro
  frame_open
  simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]

end Cert.KernelIdeal.Hand

end
-- ==== Proof.Main.RunD.lean ====
/- The main call's body at the first reduction step of a later row block. -/
module

public import proofs.«01_k».proof.Proof.Main.Full

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first reduction step of a later row block: what it leaves in each buffer. -/
theorem runD (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : cond0_0 i) (hc1 : ¬cond0_1 i) (hc2 : cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_pos hc0, if_neg hc1, if_neg hc3]
  isplitl [H10]
  · iexists _; isplitr; swap; · iexact H10
    ipureintro
    frame_open
    simp only [full_readAt, full_writes, full_cov, Memref.IsWhole.read_unread, acc0, acc1, tac0, tac1, xat1, db1, dbOld, if_pos hc0, if_neg hc1, if_neg hc3]
  isplitl [H11]
  · iexists _; isplitr; swap; · iexact H11
    ipureintro
    frame_open
    simp only [full_readAt, full_writes, full_cov, Memref.IsWhole.read_unread, acc0, acc1, tac0, tac1, xat1, db1, dbOld, if_pos hc0, if_neg hc1, if_neg hc3]
  isplitl [H12]
  · iexists _; isplitr; swap; · iexact H12
    ipureintro
    frame_open
    simp only [full_readAt, full_writes, full_cov, Memref.IsWhole.read_unread, acc0, acc1, tac0, tac1, xat1, db1, dbOld, if_pos hc0, if_neg hc1, if_neg hc3]
  isplitl [H13]
  · iexists _; isplitr; swap; · iexact H13
    ipureintro
    frame_open
    refine (View.read_writes_cons_put _ _ _ _ _ (k0_off2_eq i)).trans ?_
    rw [View.readAt_unit (Val := Elt F) arg13.view (harg13.unread x13) (size := S32x1024.size) (k0_off2_inb i hc2) (k0_off2_eq i) (db_inb i)]
    simp only [View.writes_nil, full_readAt, full_writes, full_cov, Memref.IsWhole.read_unread, acc0, acc1, tac0, tac1, xat1, db1, dbOld, if_pos hc0, if_neg hc1, if_neg hc3]
  isplitl [H14]
  · iexists _; isplitr; swap; · iexact H14
    ipureintro
    frame_open
    simp only [full_readAt, full_writes, full_cov, Memref.IsWhole.read_unread, acc0, acc1, tac0, tac1, xat1, db1, dbOld, if_pos hc0, if_neg hc1, if_neg hc3]
  isplitl [H15]
  · iexists _; isplitr; swap; · iexact H15
    ipureintro
    frame_open
    simp only [full_readAt, full_writes, full_cov, Memref.IsWhole.read_unread, acc0, acc1, tac0, tac1, xat1, db1, dbOld, if_pos hc0, if_neg hc1, if_neg hc3]
  isplitl [H16]
  · iexists _; isplitr; swap; · iexact H16
    ipureintro
    frame_open
    simp only [full_readAt, full_writes, full_cov, Memref.IsWhole.read_unread, acc0, acc1, tac0, tac1, xat1, db1, dbOld, if_pos hc0, if_neg hc1, if_neg hc3]
  iexists _; isplitr; swap; · iexact H17
  ipureintro
  frame_open
  simp only [full_readAt, full_writes, full_cov, Memref.IsWhole.read_unread, acc0, acc1, tac0, tac1, xat1, db1, dbOld, if_pos hc0, if_neg hc1, if_neg hc3]

end Cert.KernelIdeal.Hand

end
-- ==== Proof.Main.RunE.lean ====
/- The main call's body at the middle reduction step of a later row block. -/
module

public import proofs.«01_k».proof.Proof.Main.Full

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the middle reduction step of a later row block: what it leaves in each buffer. -/
theorem runE (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : ¬cond0_1 i) (hc2 : cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_neg hc0, if_neg hc1, if_neg hc3]
  isplitl [H10]
  · iexists _; isplitr; swap; · iexact H10
    ipureintro
    frame_open
    simp only [full_readAt, full_writes, full_cov, Memref.IsWhole.read_unread, acc0, acc1, tac0, tac1, xat1, db1, dbOld, if_neg hc0, if_neg hc1, if_neg hc3]
  isplitl [H11]
  · iexists _; isplitr; swap; · iexact H11
    ipureintro
    frame_open
    simp only [full_readAt, full_writes, full_cov, Memref.IsWhole.read_unread, acc0, acc1, tac0, tac1, xat1, db1, dbOld, if_neg hc0, if_neg hc1, if_neg hc3]
  isplitl [H12]
  · iexists _; isplitr; swap; · iexact H12
    ipureintro
    frame_open
    simp only [full_readAt, full_writes, full_cov, Memref.IsWhole.read_unread, acc0, acc1, tac0, tac1, xat1, db1, dbOld, if_neg hc0, if_neg hc1, if_neg hc3]
  isplitl [H13]
  · iexists _; isplitr; swap; · iexact H13
    ipureintro
    frame_open
    refine (View.read_writes_cons_put _ _ _ _ _ (k0_off2_eq i)).trans ?_
    rw [View.readAt_unit (Val := Elt F) arg13.view (harg13.unread x13) (size := S32x1024.size) (k0_off2_inb i hc2) (k0_off2_eq i) (db_inb i)]
    simp only [View.writes_nil, full_readAt, full_writes, full_cov, Memref.IsWhole.read_unread, acc0, acc1, tac0, tac1, xat1, db1, dbOld, if_neg hc0, if_neg hc1, if_neg hc3]
  isplitl [H14]
  · iexists _; isplitr; swap; · iexact H14
    ipureintro
    frame_open
    simp only [full_readAt, full_writes, full_cov, Memref.IsWhole.read_unread, acc0, acc1, tac0, tac1, xat1, db1, dbOld, if_neg hc0, if_neg hc1, if_neg hc3]
  isplitl [H15]
  · iexists _; isplitr; swap; · iexact H15
    ipureintro
    frame_open
    simp only [full_readAt, full_writes, full_cov, Memref.IsWhole.read_unread, acc0, acc1, tac0, tac1, xat1, db1, dbOld, if_neg hc0, if_neg hc1, if_neg hc3]
  isplitl [H16]
  · iexists _; isplitr; swap; · iexact H16
    ipureintro
    frame_open
    simp only [full_readAt, full_writes, full_cov, Memref.IsWhole.read_unread, acc0, acc1, tac0, tac1, xat1, db1, dbOld, if_neg hc0, if_neg hc1, if_neg hc3]
  iexists _; isplitr; swap; · iexact H17
  ipureintro
  frame_open
  simp only [full_readAt, full_writes, full_cov, Memref.IsWhole.read_unread, acc0, acc1, tac0, tac1, xat1, db1, dbOld, if_neg hc0, if_neg hc1, if_neg hc3]

end Cert.KernelIdeal.Hand

end
-- ==== Proof.Main.RunF.lean ====
/- The main call's body at the last reduction step of a later row block. -/
module

public import proofs.«01_k».proof.Proof.Main.FullB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last reduction step of a later row block: what it leaves in each buffer. -/
theorem runF (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : ¬cond0_1 i) (hc2 : cond0_2 i) (hc3 : cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [pb_fst', st_snd']
    simp only [full_readAt, full_writes, full_cov, Memref.IsWhole.read_unread]
  isplitl [H10]
  · iexists _; isplitr; swap; · iexact H10
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [pb_snd', st_fst', st_snd']
    simp only [full_readAt, full_writes, full_cov, Memref.IsWhole.read_unread]
  isplitl [H11]
  · iexists _; isplitr; swap; · iexact H11
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [st_fst']
    simp only [full_readAt, full_writes, full_cov, Memref.IsWhole.read_unread]
  isplitl [H12]
  · iexists _; isplitr; swap; · iexact H12
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
  isplitl [H13]
  · iexists _; isplitr; swap; · iexact H13
    ipureintro
    frame_open
    refine (View.read_writes_cons_put _ _ _ _ _ (k0_off2_eq i)).trans ?_
    rw [View.readAt_unit (Val := Elt F) arg13.view (harg13.unread x13) (size := S32x1024.size) (k0_off2_inb i hc2) (k0_off2_eq i) (db_inb i)]
    simp only [View.writes_nil, full_readAt, full_writes, full_cov, Memref.IsWhole.read_unread, acc0, acc1, tac0, tac1, xat1, db1, dbOld, scaleF, codesF, dxF, amaxF, if_neg hc0, if_neg hc1, if_pos hc3]
  isplitl [H14]
  · iexists _; isplitr; swap; · iexact H14
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [st_snd']
    simp only [full_readAt, full_writes, full_cov, Memref.IsWhole.read_unread]
  isplitl [H15]
  · iexists _; isplitr; swap; · iexact H15
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
  isplitl [H16]
  · iexists _; isplitr; swap; · iexact H16
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
  iexists _; isplitr; swap; · iexact H17
  ipureintro
  frame_open
  simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]

end Cert.KernelIdeal.Hand

end
-- ==== Proof.Main.Body.lean ====
/- The body at every grid point, the proof data of the pipeline with what each window and the carried scratch holds, and the run of the main call. -/
module

public import proofs.«01_k».proof.Proof.Main.RunA
public import proofs.«01_k».proof.Proof.Main.RunB
public import proofs.«01_k».proof.Proof.Main.RunC
public import proofs.«01_k».proof.Proof.Main.RunD
public import proofs.«01_k».proof.Proof.Main.RunE
public import proofs.«01_k».proof.Proof.Main.RunF

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at any point: what it leaves in each buffer, the six cases of its branch conditions together. -/
theorem runAll (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (h12 : cond0_2 i ↔ ¬cond0_1 i) (h03 : ¬(cond0_0 i ∧ cond0_3 i))
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc0 : cond0_0 i
  · have hc3 : ¬cond0_3 i := fun h => h03 ⟨hc0, h⟩
    by_cases hc1 : cond0_1 i
    · have hc2 : ¬cond0_2 i := fun h => h12.mp h hc1
      exact runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
    · have hc2 : cond0_2 i := h12.mpr hc1
      exact runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
  · by_cases hc3 : cond0_3 i
    · by_cases hc1 : cond0_1 i
      · have hc2 : ¬cond0_2 i := fun h => h12.mp h hc1
        exact runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
      · have hc2 : cond0_2 i := h12.mpr hc1
        exact runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
    · by_cases hc1 : cond0_1 i
      · have hc2 : ¬cond0_2 i := fun h => h12.mp h hc1
        exact runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
      · have hc2 : cond0_2 i := h12.mpr hc1
        exact runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K

variable (m : (ℓ : Loc nD τ sig) → Buf (Elt F) ℓ) (ρ : Dev nD → PrngReg)

/-! ## What the kernel carries between points -/

/-- The carried scratch before point `n`: the accumulator, the adapter accumulator and the split operand. -/
def carry (c : Dev nD) : ℕ → Vec F S512x7168 .f32 × Vec F S32x512 .f32 × Vec F S96x512 .bf16
  | 0 => (k0_pay17, k0_pay18, fun _ => FloatOps.ofBits .bf16 0)
  | n + 1 => if h : n < cfg0.N then
      (acc1 (grid0.coords ⟨n, h⟩) (iblk m c 0 ⟨n, h⟩) (iblk m c 2 ⟨n, h⟩) (iblk m c 3 ⟨n, h⟩) (carry c n).1,
       tac1 (grid0.coords ⟨n, h⟩) (iblk m c 0 ⟨n, h⟩) (iblk m c 4 ⟨n, h⟩) (carry c n).2.1,
       xat1 (grid0.coords ⟨n, h⟩) (iblk m c 6 ⟨n, h⟩) (iblk m c 1 ⟨n, h⟩) (carry c n).2.2)
    else carry c n

/-- The three parts after point `t`. -/
def accAt (c : Dev nD) (t : Fin cfg0.N) : Vec F S512x7168 .f32 := acc1 (grid0.coords t) (iblk m c 0 t) (iblk m c 2 t) (iblk m c 3 t) (carry m c t.val).1
def tacAt (c : Dev nD) (t : Fin cfg0.N) : Vec F S32x512 .f32 := tac1 (grid0.coords t) (iblk m c 0 t) (iblk m c 4 t) (carry m c t.val).2.1
def xatAt (c : Dev nD) (t : Fin cfg0.N) : Vec F S96x512 .bf16 := xat1 (grid0.coords t) (iblk m c 6 t) (iblk m c 1 t) (carry m c t.val).2.2

theorem carry_succ (c : Dev nD) (t : Fin cfg0.N) : carry m c (t.val + 1) = (accAt m c t, tacAt m c t, xatAt m c t) := by
  rw [carry, dif_pos t.isLt]; rfl

theorem acc1_eq (c : Dev nD) (t : Fin cfg0.N) (d : Vec F S512x7168 .f32) (h : t.val % 18 ≠ 0 → d = (carry m c t.val).1) :
    acc1 (grid0.coords t) (iblk m c 0 t) (iblk m c 2 t) (iblk m c 3 t) d = accAt m c t := by
  unfold accAt acc1 acc0
  by_cases h0 : cond0_0 (grid0.coords t)
  · rw [if_pos h0, if_pos h0]
  · rw [if_neg h0, if_neg h0, h fun e => h0 ((hcond0_0 t).mpr e)]

theorem tac1_eq (c : Dev nD) (t : Fin cfg0.N) (d : Vec F S32x512 .f32) (h : t.val % 18 ≠ 0 → d = (carry m c t.val).2.1) :
    tac1 (grid0.coords t) (iblk m c 0 t) (iblk m c 4 t) d = tacAt m c t := by
  unfold tacAt tac1 tac0
  by_cases h0 : cond0_0 (grid0.coords t)
  · rw [if_pos h0, if_pos h0]
  · rw [if_neg h0, if_neg h0, h fun e => h0 ((hcond0_0 t).mpr e)]

theorem xat1_eq (c : Dev nD) (t : Fin cfg0.N) (d : Vec F S96x512 .bf16) (h : t.val % 18 ≠ 0 → d = (carry m c t.val).2.2) :
    xat1 (grid0.coords t) (iblk m c 6 t) (iblk m c 1 t) d = xatAt m c t := by
  unfold xatAt xat1
  by_cases h0 : cond0_0 (grid0.coords t)
  · rw [if_pos h0, if_pos h0]
  · rw [if_neg h0, if_neg h0, h fun e => h0 ((hcond0_0 t).mpr e)]

/-- The invariant between points: the carried scratch at what the points before left (away from the start of a
    row block), the product's operand at anything. -/
def PhiS (c : Dev nD) (n : ℕ) : sProp 𝕄 :=
  iprop(iprop((∃ d, iprop(⌜n % 18 ≠ 0 → d = (carry m c n).1⌝ ∗ owns (c : Thread nD τ) scM0_0 fullShare d))
    ∗ (∃ d, iprop(⌜n % 18 ≠ 0 → d = (carry m c n).2.1⌝ ∗ owns (c : Thread nD τ) scM0_1 fullShare d))
    ∗ (∃ d, owns (c : Thread nD τ) scM0_2 fullShare d)
    ∗ (∃ d, iprop(⌜n % 18 ≠ 0 → d = (carry m c n).2.2⌝ ∗ owns (c : Thread nD τ) scM0_3 fullShare d))) ∗ (∃ r, prngReg c r))

/-! ## The proof data -/

/-- What the body leaves in each window's buffer, of what it finds: an input as it is; the row block's outputs at the
    last reduction step; the gradient's columns of the point. -/
def afterR (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, _, Y, X => X = Y
  | ⟨5, _⟩, _, Y, X => X = Y
  | ⟨6, _⟩, _, Y, X => X = Y
  | ⟨7, _⟩, t, Y, X => t.val % 18 = 17 → X = dxOut (dxF (iblk m c 1 t) (iblk m c 5 t) (accAt m c t) (tacAt m c t)) Y 14
  | ⟨8, _⟩, t, Y, X => t.val % 18 = 17 → X = codesF (iblk m c 1 t) (iblk m c 5 t) (accAt m c t) (tacAt m c t) Y
  | ⟨9, _⟩, t, Y, X => t.val % 18 = 17 → X = scaleF (iblk m c 1 t) (iblk m c 5 t) (accAt m c t) (tacAt m c t)
  | ⟨10, _⟩, t, Y, X => t.val % 18 = 17 → X = k0_pay9 (iblk m c 1 t) (tacAt m c t)
  | ⟨11, _⟩, t, Y, X => X = db1 (grid0.coords t) (iblk m c 0 t) (xatAt m c t) Y
  | ⟨_ + 12, h⟩, _, _, _ => absurd h (Nat.not_lt_of_ge (Nat.le_add_left _ _))

/-- The proof data of the pipeline. -/
def rdat (c : Dev nD) : Pipeline.RDat τ (Elt F) Unit ℕ (UR sig nD τ) ℕ cfg0 c where
  A w := V m c (Pipeline.arrRef spec0 w)
  after := afterR m c
  Φ n := PhiS m c n.val
  q _ := fullShare
  owed _ := 0

theorem A_eq (c : Dev nD) (w : Fin cfg0.W) : (rdat m c).A w = V m c (Pipeline.arrRef spec0 w) := by dsimp only [rdat]

theorem found0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold Pipeline.RDat.fetched Pipeline.RDat.blockOf iblk; rw [A_eq]; try rfl
theorem found1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold Pipeline.RDat.fetched Pipeline.RDat.blockOf iblk; rw [A_eq]; try rfl
theorem found2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold Pipeline.RDat.fetched Pipeline.RDat.blockOf iblk; rw [A_eq]; try rfl
theorem found3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold Pipeline.RDat.fetched Pipeline.RDat.blockOf iblk; rw [A_eq]; try rfl
theorem found4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold Pipeline.RDat.fetched Pipeline.RDat.blockOf iblk; rw [A_eq]; try rfl
theorem found5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold Pipeline.RDat.fetched Pipeline.RDat.blockOf iblk; rw [A_eq]; try rfl
theorem found6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold Pipeline.RDat.fetched Pipeline.RDat.blockOf iblk; rw [A_eq]; try rfl

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11))

def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, iprop(⌜(rdat m c).after 0 t (Y 0) X⌝ ∗ owns (c : Thread nD τ) (ms0_0 t) fullShare X))
    ∗ (∃ X, iprop(⌜(rdat m c).after 1 t (Y 1) X⌝ ∗ owns (c : Thread nD τ) (ms0_1 t) fullShare X))
    ∗ (∃ X, iprop(⌜(rdat m c).after 2 t (Y 2) X⌝ ∗ owns (c : Thread nD τ) (ms0_2 t) fullShare X))
    ∗ (∃ X, iprop(⌜(rdat m c).after 3 t (Y 3) X⌝ ∗ owns (c : Thread nD τ) (ms0_3 t) fullShare X))
    ∗ (∃ X, iprop(⌜(rdat m c).after 4 t (Y 4) X⌝ ∗ owns (c : Thread nD τ) (ms0_4 t) fullShare X))
    ∗ (∃ X, iprop(⌜(rdat m c).after 5 t (Y 5) X⌝ ∗ owns (c : Thread nD τ) (ms0_5 t) fullShare X))
    ∗ (∃ X, iprop(⌜(rdat m c).after 6 t (Y 6) X⌝ ∗ owns (c : Thread nD τ) (ms0_6 t) fullShare X))
    ∗ (∃ X, iprop(⌜(rdat m c).after 7 t (Y 7) X⌝ ∗ owns (c : Thread nD τ) (ms0_7 t) fullShare X))
    ∗ (∃ X, iprop(⌜(rdat m c).after 8 t (Y 8) X⌝ ∗ owns (c : Thread nD τ) (ms0_8 t) fullShare X))
    ∗ (∃ X, iprop(⌜(rdat m c).after 9 t (Y 9) X⌝ ∗ owns (c : Thread nD τ) (ms0_9 t) fullShare X))
    ∗ (∃ X, iprop(⌜(rdat m c).after 10 t (Y 10) X⌝ ∗ owns (c : Thread nD τ) (ms0_10 t) fullShare X))
    ∗ (∃ X, iprop(⌜(rdat m c).after 11 t (Y 11) X⌝ ∗ owns (c : Thread nD τ) (ms0_11 t) fullShare X)))

set_option maxHeartbeats 4000000 in
/-- The body at any point, from the proof data's contents to the proof data's. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  have hN : t.val < 432 := lt_of_lt_of_eq t.isLt (show cfg0.N = 432 from N_0)
  have h12 : cond0_2 (grid0.coords t) ↔ ¬cond0_1 (grid0.coords t) := by rw [hcond0_2 t, hcond0_1 t]; omega
  have h03 : ¬(cond0_0 (grid0.coords t) ∧ cond0_3 (grid0.coords t)) := by rw [hcond0_0 t, hcond0_3 t]; omega
  rw [show (rdat m c).owesAt () t.succ = (rdat m c).owesAt () t.castSucc from rfl,
    show (rdat m c).Φ t.castSucc = PhiS m c t.val from rfl, show (rdat m c).Φ t.succ = PhiS m c (t.val + 1) from rfl]
  unfold PhiS
  rw [carry_succ]
  rw [found0 m c t (Y 0) (hY 0)]
  rw [found1 m c t (Y 1) (hY 1)]
  rw [found2 m c t (Y 2) (hY 2)]
  rw [found3 m c t (Y 3) (hY 3)]
  rw [found4 m c t (Y 4) (hY 4)]
  rw [found5 m c t (Y 5) (hY 5)]
  rw [found6 m c t (Y 6) (hY 6)]
  iintro ⟨⟨⟨⟨%d0, %hd0, S0⟩, ⟨%d1, %hd1, S1⟩, ⟨%d2, S2⟩, ⟨%d3, %hd3, S3⟩⟩, Hg⟩, Ho, H0, H1, H2, H3, H4, H5, H6, H7, H8, H9, H10, H11⟩
  iapply (runAll c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h12 h03 (iblk m c 0 t) (iblk m c 1 t) (iblk m c 2 t) (iblk m c 3 t) (iblk m c 4 t) (iblk m c 5 t) (iblk m c 6 t) (Y 7) (Y 8) (Y 9) (Y 10) (Y 11) d0 d1 d2 d3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  rw [acc1_eq m c t d0 hd0, tac1_eq m c t d1 hd1, xat1_eq m c t d3 hd3]
  iintro ⟨H0, H1, H2, H3, H4, H5, H6, H7, H8, H9, H10, H11, S0, S1, S2, S3⟩
  isplitl [S0 S1 S2 S3 Hg]
  · isplitl [S0 S1 S2 S3]
    · isplitl [S0]
      · iexists _; isplitr; swap; · iexact S0
        ipureintro
        intro h
        rw [if_neg (fun e => by have := (hcond0_3 t).mp e; omega)]
      isplitl [S1]
      · iexists _; isplitr; swap; · iexact S1
        ipureintro; intro _; rfl
      isplitl [S2]
      · iexists _; iexact S2
      iexists _; isplitr; swap; · iexact S3
      ipureintro; intro _; rfl
    iexact Hg
  isplitl [Ho]
  · iexact Ho
  isplitl [H0]
  · iexists _; isplitr; swap; · iexact H0
    ipureintro
    exact (rfl : iblk m c 0 t = iblk m c 0 t)
  isplitl [H1]
  · iexists _; isplitr; swap; · iexact H1
    ipureintro
    exact (rfl : iblk m c 1 t = iblk m c 1 t)
  isplitl [H2]
  · iexists _; isplitr; swap; · iexact H2
    ipureintro
    exact (rfl : iblk m c 2 t = iblk m c 2 t)
  isplitl [H3]
  · iexists _; isplitr; swap; · iexact H3
    ipureintro
    exact (rfl : iblk m c 3 t = iblk m c 3 t)
  isplitl [H4]
  · iexists _; isplitr; swap; · iexact H4
    ipureintro
    exact (rfl : iblk m c 4 t = iblk m c 4 t)
  isplitl [H5]
  · iexists _; isplitr; swap; · iexact H5
    ipureintro
    exact (rfl : iblk m c 5 t = iblk m c 5 t)
  isplitl [H6]
  · iexists _; isplitr; swap; · iexact H6
    ipureintro
    exact (rfl : iblk m c 6 t = iblk m c 6 t)
  isplitl [H7]
  · iexists _; isplitr; swap; · iexact H7
    ipureintro
    exact fun h => if_pos ((hcond0_3 t).mpr h)
  isplitl [H8]
  · iexists _; isplitr; swap; · iexact H8
    ipureintro
    exact fun h => if_pos ((hcond0_3 t).mpr h)
  isplitl [H9]
  · iexists _; isplitr; swap; · iexact H9
    ipureintro
    exact fun h => if_pos ((hcond0_3 t).mpr h)
  isplitl [H10]
  · iexists _; isplitr; swap; · iexact H10
    ipureintro
    exact fun h => if_pos ((hcond0_3 t).mpr h)
  iexists _; isplitr; swap; · iexact H11
  ipureintro
  rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem hin (c : Dev nD) : Pipeline.ΦA spec0 c ⊢ (rdat m c).Φ 0 := by
  rw [show (rdat m c).Φ 0 = PhiS m c 0 from rfl, PhiA0_eq]
  unfold PhiS
  iintro ⟨⟨⟨%d0, S0⟩, ⟨%d1, S1⟩, S2, ⟨%d3, S3⟩⟩, Hg⟩
  isplitl [S0 S1 S2 S3]
  · isplitl [S0]
    · iexists _; isplitr; swap; · iexact S0
      ipureintro; exact fun h => absurd rfl h
    isplitl [S1]
    · iexists _; isplitr; swap; · iexact S1
      ipureintro; exact fun h => absurd rfl h
    isplitl [S2]
    · iexact S2
    iexists _; isplitr; swap; · iexact S3
    ipureintro; exact fun h => absurd rfl h
  iexact Hg

theorem hout (c : Dev nD) : (rdat m c).Φ (Fin.last cfg0.N) ⊢ Pipeline.ΦA spec0 c := by
  rw [show (rdat m c).Φ (Fin.last cfg0.N) = PhiS m c (Fin.last cfg0.N).val from rfl, PhiA0_eq]
  unfold PhiS
  iintro ⟨⟨⟨%d0, %h0, S0⟩, ⟨%d1, %h1, S1⟩, S2, ⟨%d3, %h3, S3⟩⟩, Hg⟩
  isplitl [S0 S1 S2 S3]
  · isplitl [S0]
    · iexists _; iexact S0
    isplitl [S1]
    · iexists _; iexact S1
    isplitl [S2]
    · iexact S2
    iexists _; iexact S3
  iexact Hg

/-! ## The run and the frame -/

set_option backward.isDefEq.respectTransparency.types false in
/-- Every run of the program ends, with the arrays at what the proof data says and every counter at zero. -/
theorem run_main_quiescent : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 4 rfl).trans ((A_eq m c 4).trans (V_main_arg5 m c)),
      (h.1.arr_in c 6 rfl).trans ((A_eq m c 6).trans (V_main_arg6 m c))⟩, h.2⟩) (run_main_quiescent m ρ)

end Cert.KernelIdeal.Hand

end
-- ==== Proof.Quant.lean ====
/- The quantiser's scalar part over the extended reals: the power of two the kernel builds in a float's exponent field,
   from a count of the powers of two below a value, is the one the reference computes with a logarithm. -/
module

public import proofs.«01_k».proof.Proof.Reals

@[expose] public section

set_option maxRecDepth 16384

noncomputable section

open Idealize.ShloMosaic Idealize.ShloMosaic.TcCoe

namespace Cert.Reals

/-- A word shifted into the exponent field, as a number. -/
theorem shl_eq : ∀ n : Fin 256, IntOp.shli ArithUnit.vector (BitVec.ofNat 32 n.val) 23#32 = BitVec.ofNat 32 (n.val * 8388608) := by decide +kernel

theorem exp_neg : ∀ n : Fin 256, (BitVec.extractLsb' 31 1 (BitVec.ofNat 32 (n.val * 8388608)) == 1#1) = false := by decide +kernel
theorem exp_ex : ∀ n : Fin 256, (BitVec.extractLsb' 23 8 (BitVec.ofNat 32 (n.val * 8388608))).toNat = n.val := by decide +kernel
theorem exp_fr : ∀ n : Fin 256, (BitVec.extractLsb' 0 23 (BitVec.ofNat 32 (n.val * 8388608))).toNat = 0 := by decide +kernel

/-- The float whose exponent field is `n` and whose other bits are zero. -/
theorem pow_bits (n : ℕ) (h1 : 1 ≤ n) (h2 : n ≤ 254) :
    Ideal.ofBits .f32 (IntOp.shli ArithUnit.vector (BitVec.ofNat 32 n) 23#32) = (((2 : ℝ) ^ ((n : ℤ) - 127) : ℝ) : EReal) := by
  have hn : n < 256 := by omega
  have e := shl_eq ⟨n, hn⟩
  have hneg := exp_neg ⟨n, hn⟩
  have hex := exp_ex ⟨n, hn⟩
  have hfr := exp_fr ⟨n, hn⟩
  simp only at e hneg hex hfr
  rw [e]
  simp only [Ideal.ofBits, Ideal.ieee, hneg, hex, hfr]
  rw [if_neg (by norm_num; omega), if_neg (by omega)]
  congr 1
  simp only [Bool.false_eq_true, if_false, add_zero, one_mul]
  push_cast
  rw [show (8388608 : ℝ) = (2 : ℝ) ^ (23 : ℤ) from by norm_num, ← zpow_add₀ (by norm_num)]
  congr 1
  ring

theorem pow_bits_zero : Ideal.ofBits .f32 (IntOp.shli ArithUnit.vector (BitVec.ofNat 32 0) 23#32) = 0 := by
  have e := shl_eq 0
  have hneg := exp_neg 0
  have hex := exp_ex 0
  have hfr := exp_fr 0
  simp only [Fin.val_zero, Fin.coe_ofNat_eq_mod] at e hneg hex hfr
  norm_num at e hneg hex hfr
  rw [e]
  simp [Ideal.ofBits, Ideal.ieee]

theorem pow_bits_top : Ideal.ofBits .f32 (IntOp.shli ArithUnit.vector (BitVec.ofNat 32 255) 23#32) = ⊤ := by
  have e : IntOp.shli ArithUnit.vector (BitVec.ofNat 32 255) 23#32 = 0x7F800000#32 := by decide +kernel
  rw [e]
  simp [Ideal.ofBits, Ideal.ieee]

/-- The constant `-126`. -/
theorem m126 : Ideal.ofBits .f32 3271294976#32 = ((-126 : ℝ) : EReal) := by
  have hneg : (BitVec.extractLsb' 31 1 (3271294976#32) == 1#1) = true := by decide
  have hex : (BitVec.extractLsb' 23 8 (3271294976#32)).toNat = 133 := by decide
  have hfr : (BitVec.extractLsb' 0 23 (3271294976#32)).toNat = 8126464 := by decide
  simp only [Ideal.ofBits, Ideal.ieee, hneg, hex, hfr]
  norm_num

/-- The reciprocal of the code format's largest value, as the float nearest to it. -/
def recip : ℝ := 9586981 * (2 : ℝ) ^ (-39 : ℤ)

theorem recip_eq : Ideal.ofBits .f32 932333861#32 = ((recip : ℝ) : EReal) := by
  have hneg : (BitVec.extractLsb' 31 1 (932333861#32) == 1#1) = false := by decide
  have hex : (BitVec.extractLsb' 23 8 (932333861#32)).toNat = 111 := by decide
  have hfr : (BitVec.extractLsb' 0 23 (932333861#32)).toNat = 1198373 := by decide
  simp only [Ideal.ofBits, Ideal.ieee, hneg, hex, hfr, recip]
  norm_num

theorem recip_pos : 0 < recip := by unfold recip; positivity
theorem recip_lt : recip < (2 : ℝ) ^ (-15 : ℤ) := by unfold recip; norm_num

/-- The exponent of the largest power of two at most `r`. -/
def ilog (r : ℝ) : ℤ := ⌊Real.log r * (Real.log 2)⁻¹⌋

theorem pow_le_ilog {r : ℝ} (h0 : 0 < r) (k : ℤ) : (2 : ℝ) ^ k ≤ r ↔ k ≤ ilog r := by
  have hl2 : (0 : ℝ) < Real.log 2 := Real.log_pos (by norm_num)
  unfold ilog
  rw [Int.le_floor, ← div_eq_mul_inv, le_div_iff₀ hl2, ← Real.log_zpow, Real.log_le_log_iff (by positivity) h0]

/-- How many exponent fields' powers of two are at most `r`. -/
def cnt (r : ℝ) : ℕ := if r < (2 : ℝ) ^ (-126 : ℤ) then 1 else (ilog r + 128).toNat

theorem log_lt {r : ℝ} (h0 : 0 < r) (h : r < (2 : ℝ) ^ (126 : ℤ)) : ilog r < 126 := by
  by_contra hn
  have := (pow_le_ilog h0 126).mpr (not_lt.mp hn)
  linarith

theorem le_log {r : ℝ} (h : ¬ r < (2 : ℝ) ^ (-126 : ℤ)) : 0 < r ∧ -126 ≤ ilog r := by
  have h0 : 0 < r := lt_of_lt_of_le (by positivity) (not_lt.mp h)
  exact ⟨h0, (pow_le_ilog h0 (-126)).mp (not_lt.mp h)⟩

theorem cnt_bounds {r : ℝ} (h : r < (2 : ℝ) ^ (126 : ℤ)) : 1 ≤ cnt r ∧ cnt r ≤ 253 := by
  unfold cnt
  split
  · omega
  · rename_i hr
    obtain ⟨h0, h1⟩ := le_log hr
    have := log_lt h0 h
    omega

theorem pow_le_iff {r : ℝ} (h0 : 0 ≤ r) (h : r < (2 : ℝ) ^ (126 : ℤ)) (k : Fin 256) :
    Ideal.ofBits .f32 (IntOp.shli ArithUnit.vector (BitVec.ofNat 32 k.val) 23#32) ≤ (r : EReal) ↔ k.val < cnt r := by
  have hc := cnt_bounds h
  by_cases hk0 : k.val = 0
  · rw [hk0, pow_bits_zero]
    exact ⟨fun _ => by omega, fun _ => by exact_mod_cast h0⟩
  by_cases hk : k.val = 255
  · rw [hk, pow_bits_top]
    exact ⟨fun h => absurd h (by simp), fun _ => by omega⟩
  rw [pow_bits k.val (by omega) (by omega), EReal.coe_le_coe_iff]
  unfold cnt
  split
  · rename_i hr
    constructor
    · intro hle
      exfalso
      have : (2 : ℝ) ^ (-126 : ℤ) ≤ (2 : ℝ) ^ ((k.val : ℤ) - 127) := zpow_le_zpow_right₀ (by norm_num) (by omega)
      linarith
    · omega
  · rename_i hr
    obtain ⟨hp, h1⟩ := le_log hr
    rw [pow_le_ilog hp]
    omega

/-- The exponent field the kernel finds: the count of powers of two at most the value, less one. -/
def field (y : EReal) : BitVec 32 :=
  IntOp.andi (IntOp.shrsi ArithUnit.vector (IntOp.shli ArithUnit.vector (IntOp.subi
    (Finset.fold IntOp.addi (0#32) (fun x : Fin 256 => BitVec.setWidth 32 (BitVec.ofBool (decide
      (Ideal.ofBits FTy.f32 (IntOp.shli ArithUnit.vector (BitVec.ofNat 32 ↑x) 23#32) ≤ y)))) Finset.univ) 1#32) 23#32) 23#32) 255#32

theorem card_lt (N : ℕ) (h : N ≤ 256) : (Finset.univ.filter (fun x : Fin 256 => x.val < N)).card = N := by
  have : (Finset.univ.filter (fun x : Fin 256 => x.val < N)).card = (Finset.range N).card := by
    refine Finset.card_bij (fun x _ => x.val) (fun x hx => ?_) (fun x _ y _ h => Fin.ext h) (fun b hb => ?_)
    · rw [Finset.mem_range]; exact (Finset.mem_filter.mp hx).2
    · rw [Finset.mem_range] at hb
      exact ⟨⟨b, by omega⟩, Finset.mem_filter.mpr ⟨Finset.mem_univ _, hb⟩, rfl⟩
  rw [this, Finset.card_range]

theorem fold_lt (N : ℕ) (h : N ≤ 256) :
    Finset.fold IntOp.addi (0#32) (fun x : Fin 256 => BitVec.setWidth 32 (BitVec.ofBool (decide (x.val < N)))) Finset.univ = BitVec.ofNat 32 N := by
  refine Eq.trans ?_ (congrArg (BitVec.ofNat 32) (card_lt N h))
  generalize (Finset.univ : Finset (Fin 256)) = S
  classical
  induction S using Finset.induction_on with
  | empty => rfl
  | insert a S ha ih =>
    rw [Finset.fold_insert ha, ih, Finset.filter_insert]
    by_cases hx : a.val < N
    · rw [if_pos hx, Finset.card_insert_of_notMem (by simp [ha])]
      simp only [hx, decide_true]
      show (1#32) + BitVec.ofNat 32 _ = _
      rw [Nat.add_comm, BitVec.ofNat_add]
    · rw [if_neg hx]
      simp only [hx, decide_false]
      show (0#32) + BitVec.ofNat 32 _ = _
      rw [BitVec.zero_add]

theorem field_word : ∀ N : Fin 254, 1 ≤ N.val →
    IntOp.andi (IntOp.shrsi ArithUnit.vector (IntOp.shli ArithUnit.vector (IntOp.subi (BitVec.ofNat 32 N.val) 1#32) 23#32) 23#32) 255#32
      = BitVec.ofNat 32 (N.val - 1) := by decide +kernel

theorem field_eq {r : ℝ} (h0 : 0 ≤ r) (h : r < (2 : ℝ) ^ (126 : ℤ)) : field (r : EReal) = BitVec.ofNat 32 (cnt r - 1) := by
  have hc := cnt_bounds h
  unfold field
  simp only [pow_le_iff h0 h]
  rw [fold_lt _ (by omega)]
  exact field_word ⟨cnt r, by omega⟩ hc.1

theorem up_word : ∀ N : Fin 254, 1 ≤ N.val →
    IntOp.addi (IntOp.subi (BitVec.ofNat 32 (N.val - 1)) 126#32) 127#32 = BitVec.ofNat 32 N.val := by decide +kernel

theorem down_word : ∀ N : Fin 254, 1 ≤ N.val →
    IntOp.subi 127#32 (IntOp.subi (BitVec.ofNat 32 (N.val - 1)) 126#32) = BitVec.ofNat 32 (254 - N.val) := by decide +kernel

/-- The exponent of the scale the kernel takes. -/
def ksel (y : EReal) : BitVec 32 := Scalar.select (BitVec.ofBool (decide (y = 0))) 0#32 (IntOp.subi (field y) 126#32)

/-- The exponent of the scale the reference takes. -/
def rsel (y : EReal) : EReal :=
  if y = 0 then 0 else max (Ideal.liftRound Int.floor (Ideal.div (Ideal.log y) (Ideal.log (Ideal.ofBits .f32 1073741824#32))) + 1) (Ideal.ofBits .f32 3271294976#32)

theorem rsel_eq {r : ℝ} (h0 : 0 < r) : rsel (r : EReal) = ((((cnt r : ℤ) - 127 : ℤ) : ℝ) : EReal) := by
  have hne : (r : EReal) ≠ 0 := by exact_mod_cast h0.ne'
  have hl2 : (0 : ℝ) < Real.log 2 := Real.log_pos (by norm_num)
  have hlog : Ideal.log ((2 : ℝ) : EReal) = ((Real.log 2 : ℝ) : EReal) := by
    show (if (2 : ℝ) ≤ 0 then (⊥ : EReal) else _) = _
    rw [if_neg (by norm_num)]
  have hlogr : Ideal.log (r : EReal) = ((Real.log r : ℝ) : EReal) := by
    show (if r ≤ 0 then (⊥ : EReal) else _) = _
    rw [if_neg (by linarith)]
  have hdiv : Ideal.div ((Real.log r : ℝ) : EReal) ((Real.log 2 : ℝ) : EReal) = ((Real.log r * (Real.log 2)⁻¹ : ℝ) : EReal) := by
    unfold Ideal.div
    rw [if_neg (by exact_mod_cast hl2.ne'), ← EReal.coe_inv, ← EReal.coe_mul]
  unfold rsel
  rw [if_neg hne, two, m126, show (2 : EReal) = ((2 : ℝ) : EReal) from rfl, hlog, hlogr, hdiv]
  show max (((ilog r : ℝ) : EReal) + 1) _ = _
  rw [show (1 : EReal) = ((1 : ℝ) : EReal) from rfl, ← EReal.coe_add, ← EReal.coe_strictMono.monotone.map_max]
  congr 1
  unfold cnt
  split
  · rename_i hr
    have h1 : ilog r < -126 := by
      by_contra hn
      exact absurd ((pow_le_ilog h0 (-126)).mpr (not_lt.mp hn)) (not_le.mpr hr)
    have h2 : ((ilog r : ℤ) : ℝ) + 1 ≤ -126 := by exact_mod_cast h1
    rw [max_eq_right h2]; norm_num
  · rename_i hr
    obtain ⟨_, h1⟩ := le_log hr
    have h2 : (-126 : ℝ) ≤ ((ilog r : ℤ) : ℝ) + 1 := by exact_mod_cast (by omega : (-126 : ℤ) ≤ ilog r + 1)
    rw [max_eq_left h2, Int.toNat_of_nonneg (by omega)]
    push_cast; ring

theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

/-- The scale and its inverse: the kernel's exponent fields are the reference's powers of two. -/
theorem quant {y : EReal} {r : ℝ} (hy : y = r) (h0 : 0 ≤ r) (h : r < (2 : ℝ) ^ (126 : ℤ)) :
    Ideal.ofBits .f32 (IntOp.shli ArithUnit.vector (IntOp.addi (ksel y) 127#32) 23#32) = Ideal.exp2 (rsel y)
      ∧ Ideal.ofBits .f32 (IntOp.shli ArithUnit.vector (IntOp.subi 127#32 (ksel y)) 23#32) = Ideal.exp2 (0 - rsel y) := by
  subst hy
  have hc := cnt_bounds h
  rcases h0.eq_or_lt with h00 | hp
  · subst h00
    have hk : ksel ((0 : ℝ) : EReal) = 0#32 := by simp [ksel, Scalar.select]
    have hr : rsel ((0 : ℝ) : EReal) = 0 := by simp [rsel]
    have e0 : Ideal.exp2 (0 : EReal) = 1 := by
      have := exp2_int 0
      simpa using this
    have e1 : Ideal.ofBits .f32 (IntOp.shli ArithUnit.vector (BitVec.ofNat 32 127) 23#32) = 1 := by
      rw [pow_bits 127 (by norm_num) (by norm_num)]; simp
    rw [hk, hr]
    constructor
    · rw [e0, show IntOp.addi 0#32 127#32 = BitVec.ofNat 32 127 from by decide]; exact e1
    · rw [sub_zero, e0, show IntOp.subi 127#32 0#32 = BitVec.ofNat 32 127 from by decide]; exact e1
  · have hne : ((r : ℝ) : EReal) ≠ 0 := by exact_mod_cast hp.ne'
    have hk : ksel (r : EReal) = IntOp.subi (BitVec.ofNat 32 (cnt r - 1)) 126#32 := by
      rw [ksel, field_eq h0 h]; simp [Scalar.select, hne]
    rw [hk, rsel_eq hp]
    constructor
    · rw [up_word ⟨cnt r, by omega⟩ hc.1, pow_bits _ hc.1 (by omega), exp2_int]
    · rw [down_word ⟨cnt r, by omega⟩ hc.1, pow_bits _ (by omega) (by omega), show (0 : EReal) = ((0 : ℝ) : EReal) from rfl, ← EReal.coe_sub,
        show (0 : ℝ) - (((cnt r : ℤ) - 127 : ℤ) : ℝ) = (((127 - (cnt r : ℤ) : ℤ)) : ℝ) from by push_cast; ring, exp2_int]
      congr 2
      simp only
      omega

/-! ## Bounds -/

/-- The value is a real number of magnitude at most `b`. -/
def Bd (b : ℝ) (x : EReal) : Prop := ∃ r : ℝ, x = (r : EReal) ∧ |r| ≤ b

theorem Bd.fin {b : ℝ} {x : EReal} (h : Bd b x) : Fin' x := ⟨h.choose, h.choose_spec.1⟩

theorem Bd.mono {a b : ℝ} {x : EReal} (h : Bd a x) (hab : a ≤ b) : Bd b x := by
  obtain ⟨r, e, hr⟩ := h; exact ⟨r, e, hr.trans hab⟩

theorem Bd.nonneg {b : ℝ} {x : EReal} (h : Bd b x) : 0 ≤ b := by
  obtain ⟨r, e, hr⟩ := h; exact (abs_nonneg r).trans hr

theorem Bd.mul {a b : ℝ} {x y : EReal} (hx : Bd a x) (hy : Bd b y) : Bd (a * b) (x * y) := by
  have ha := hx.nonneg
  obtain ⟨r, rfl, hr⟩ := hx; obtain ⟨s, rfl, hs⟩ := hy
  exact ⟨r * s, by push_cast; rfl, by rw [abs_mul]; exact mul_le_mul hr hs (abs_nonneg _) ha⟩

theorem Bd.add {a b : ℝ} {x y : EReal} (hx : Bd a x) (hy : Bd b y) : Bd (a + b) (x + y) := by
  obtain ⟨r, rfl, hr⟩ := hx; obtain ⟨s, rfl, hs⟩ := hy
  exact ⟨r + s, by push_cast; rfl, (abs_add_le r s).trans (add_le_add hr hs)⟩

theorem Bd.sum {ι : Type} (s : Finset ι) {f : ι → EReal} {b : ℝ} (h : ∀ i, Bd b (f i)) : Bd (s.card * b) (∑ i ∈ s, f i) := by
  classical
  induction s using Finset.induction_on with
  | empty => exact ⟨0, by simp, by simp⟩
  | insert a s ha ih =>
    rw [Finset.sum_insert ha, Finset.card_insert_of_notMem ha]
    have := (h a).add ih
    refine this.mono (le_of_eq ?_)
    push_cast; ring

theorem Bd.two : Bd 2 (Ideal.ofBits .f32 1073741824#32) := ⟨2, Reals.two, by norm_num⟩

end Cert.Reals

end
-- ==== Proof.Main.Chunks.lean ====
/- The last reduction step's two column loops at the extended reals: every entry of the finished result, of the row
   maxima, of the codes and of the scale, in the accumulators' entries. -/
module

public import proofs.«01_k».proof.Proof.Main.State
public import proofs.«01_k».proof.Proof.Quant

@[expose] public section

set_option maxRecDepth 16384

noncomputable section

namespace Cert.Reals

open Idealize.ShloMosaic Idealize.ShloMosaic.TcCoe

/-- A sum over the three stacked parts of a split operand: the second and third parts of a real number vanish. -/
theorem sum96 (p : Fin 32 → EReal) (hp : ∀ i, Fin' (p i)) (L R : Fin 96 → EReal) (q : Fin 32 → EReal)
    (h0 : ∀ i : Fin 32, L ⟨i.val, by omega⟩ = p i) (hR : ∀ i : Fin 32, R ⟨i.val, by omega⟩ = q i)
    (h1 : ∀ i : Fin 32, L ⟨32 + i.val, by omega⟩ = p i - p i)
    (h2 : ∀ i : Fin 32, L ⟨64 + i.val, by omega⟩ = p i - p i - (p i - p i)) :
    ∑ x : Fin 96, L x * R x = ∑ i : Fin 32, p i * q i := by
  have e : ∑ x : Fin 96, L x * R x = ∑ x : Fin (32 + (32 + 32)), L ⟨x.val, by omega⟩ * R ⟨x.val, by omega⟩ := rfl
  rw [e, Fin.sum_univ_add, Fin.sum_univ_add]
  have z1 : ∀ i : Fin 32, L ⟨32 + i.val, by omega⟩ = 0 := fun i => by rw [h1, (hp i).sub_self]
  have z2 : ∀ i : Fin 32, L ⟨64 + i.val, by omega⟩ = 0 := fun i => by rw [h2, (hp i).sub_self, sub_zero]
  rw [Finset.sum_eq_zero (s := Finset.univ) (f := fun i : Fin 32 => L ⟨(Fin.natAdd 32 (Fin.castAdd 32 i)).val, _⟩ * R ⟨(Fin.natAdd 32 (Fin.castAdd 32 i)).val, _⟩),
    Finset.sum_eq_zero (s := Finset.univ) (f := fun i : Fin 32 => L ⟨(Fin.natAdd 32 (Fin.natAdd 32 i)).val, _⟩ * R ⟨(Fin.natAdd 32 (Fin.natAdd 32 i)).val, _⟩), add_zero, add_zero]
  · exact Finset.sum_congr rfl fun i _ => congrArg₂ (· * ·) (h0 i) (hR i)
  · intro i _
    have : L ⟨(Fin.natAdd 32 (Fin.natAdd 32 i)).val, by omega⟩ = 0 := by
      rw [← z2 i]; congr 1; apply Fin.ext; show 32 + (32 + i.val) = 64 + i.val; omega
    rw [this, zero_mul]
  · intro i _
    have : L ⟨(Fin.natAdd 32 (Fin.castAdd 32 i)).val, by omega⟩ = 0 := z1 i
    rw [this, zero_mul]

/-- The magnitude. -/
abbrev mag (x : EReal) : EReal := max x (-x)

/-- The constants the codes are clamped to. -/
abbrev clampq (x : EReal) : EReal := min (Ideal.ofBits .f32 1197473792#32) (max (Ideal.ofBits .f32 3344957440#32) x)

theorem negInf : Ideal.ofBits .f32 4286578688#32 = ⊥ := by simp [Ideal.ofBits, Ideal.ieee]

theorem mag_nonneg (x : EReal) : 0 ≤ mag x := by
  rcases le_total 0 x with h | h
  · exact h.trans (le_max_left _ _)
  · exact (EReal.neg_nonneg.mpr h).trans (le_max_right _ _)

end Cert.Reals

namespace Cert.KernelIdeal.Hand

open Cert.KernelIdeal Cert.KernelIdeal.Gen
open Idealize.ShloMosaic Idealize.ShloMosaic.TcCoe
open Cert.Reals

theorem put_at {α : Type} (x : S512x7168.Idx → α) (n : ℕ) (w : S512x512.Idx → α) (r : Fin 512) (c : Fin 7168) :
    (VecWindow.put x ![0, 512 * n] S512x512.size w : S512x7168.Idx → α) (ix2 r c)
      = if h : 512 * n ≤ c.val ∧ c.val < 512 * n + 512 then w (ix2 r ⟨c.val - 512 * n, by omega⟩) else x (ix2 r c) := by
  unfold VecWindow.put
  by_cases h : 512 * n ≤ c.val ∧ c.val < 512 * n + 512
  · rw [dif_pos h, dif_pos (fun a => by
      fin_cases a
      · exact ⟨Nat.zero_le _, by show r.val < 0 + 512; omega⟩
      · exact h)]
    exact congrArg w (funext fun a => by fin_cases a <;> exact Fin.ext rfl)
  · rw [dif_neg h, dif_neg (fun hall => h (hall 1))]

theorem chunk_at (d : Vec Ideal S512x7168 .f32) (k : Fin 14) (r : Fin 512) (c : Fin 512) :
    chunk d k (ix2 r c) = d (ix2 r ⟨512 * k.val + c.val, by omega⟩) :=
  congrArg d (funext fun a => by
    fin_cases a
    · exact Fin.ext (show 0 + 1 * r.val = r.val by omega)
    · exact Fin.ext (show 512 * k.val + 1 * c.val = 512 * k.val + c.val by omega))

theorem chunkA_at (d : Vec Ideal S32x7168 .bf16) (k : Fin 14) (r : Fin 32) (c : Fin 512) :
    chunkA d k (ix2 r c) = d (ix2 r ⟨512 * k.val + c.val, by omega⟩) :=
  congrArg d (funext fun a => by
    fin_cases a
    · exact Fin.ext (show 0 + 1 * r.val = r.val by omega)
    · exact Fin.ext (show 512 * k.val + 1 * c.val = 512 * k.val + c.val by omega))

/-- An entry of the finished result: the accumulator's times the row's scale, plus the adapter's term. -/
def dxv (s : Vec Ideal S512x1 .f32) (t : Vec Ideal S32x512 .f32) (x7 : Vec Ideal S32x7168 .bf16) (a : Vec Ideal S512x7168 .f32) (r : Fin 512) (c : Fin 7168) : EReal :=
  a (ix2 r c) * s (ix2 r 0) + Ideal.ofBits .f32 1073741824#32 * ∑ i : Fin 32, (t (ix2 i r) * s (ix2 r 0) : EReal) * x7 (ix2 i c)

theorem pay9_at (s : Vec Ideal S512x1 .f32) (t : Vec Ideal S32x512 .f32) (r : Fin 512) (i : Fin 32) :
    (k0_pay9 (F := Ideal) s t (ix2 r i) : EReal) = t (ix2 i r) * s (ix2 r 0) := by
  pointwise [k0_pay9, k0_pay8]

theorem pay11_at (s : Vec Ideal S512x1 .f32) (t : Vec Ideal S32x512 .f32) (b : Vec Ideal S32x512 .bf16) (d : Vec Ideal S512x512 .f32)
    (hf : ∀ i r, Fin' (t (ix2 i r) * s (ix2 r 0) : EReal)) (r : Fin 512) (c : Fin 512) :
    (k0_pay11 (F := Ideal) s t b d (ix2 r c) : EReal)
      = d (ix2 r c) * s (ix2 r 0) + Ideal.ofBits .f32 1073741824#32 * ∑ i : Fin 32, (t (ix2 i r) * s (ix2 r 0) : EReal) * b (ix2 i c) := by
  pointwise [k0_pay11]
  have e8 : (k0_pay8 (F := Ideal) s (ix2 r 0) : EReal) = s (ix2 r 0) := by pointwise [k0_pay8]
  rw [e8]
  congr 2
  refine sum96 (fun i => (t (ix2 i r) * s (ix2 r 0) : EReal)) (fun i => hf i r) _ _ _ ?_ ?_ ?_ ?_
  · intro i
    rw [dif_pos (show i.val < 32 from i.isLt)]
    exact pay9_at s t r i
  · intro i
    rw [dif_pos (show i.val < 32 from i.isLt)]
  · intro i
    rw [dif_neg (show ¬ (32 + i.val) < 32 by omega), dif_pos (show 32 + i.val - 32 < 32 by omega)]
    have e : (⟨32 + i.val - 32, by omega⟩ : Fin 32) = i := Fin.ext (by show 32 + i.val - 32 = i.val; omega)
    show k0_pay9 (F := Ideal) s t (ix2 r ⟨32 + i.val - 32, _⟩) - k0_pay9 (F := Ideal) s t (ix2 r ⟨32 + i.val - 32, _⟩) = _
    rw [e, pay9_at]
  · intro i
    rw [dif_neg (show ¬ (64 + i.val) < 32 by omega), dif_neg (show ¬ (64 + i.val - 32) < 32 by omega)]
    have e : (⟨64 + i.val - 32 - 32, by omega⟩ : Fin 32) = i := Fin.ext (by show 64 + i.val - 32 - 32 = i.val; omega)
    show k0_pay9 (F := Ideal) s t (ix2 r ⟨64 + i.val - 32 - 32, _⟩) - k0_pay9 (F := Ideal) s t (ix2 r ⟨64 + i.val - 32 - 32, _⟩)
      - (k0_pay9 (F := Ideal) s t (ix2 r ⟨64 + i.val - 32 - 32, _⟩) - k0_pay9 (F := Ideal) s t (ix2 r ⟨64 + i.val - 32 - 32, _⟩)) = _
    rw [e, pay9_at]

theorem pay12_at (s : Vec Ideal S512x1 .f32) (t : Vec Ideal S32x512 .f32) (b : Vec Ideal S32x512 .bf16) (d : Vec Ideal S512x512 .f32) (j : S512x512.Idx) :
    (k0_pay12 (F := Ideal) s t b d j : EReal) = k0_pay11 (F := Ideal) s t b d j := by
  pointwise [k0_pay12]

variable (s : Vec Ideal S512x1 .f32) (t : Vec Ideal S32x512 .f32) (x7 : Vec Ideal S32x7168 .bf16) (a : Vec Ideal S512x7168 .f32)
  (hf : ∀ i r, Fin' (t (ix2 i r) * s (ix2 r 0) : EReal))

include hf

/-- After `n` chunks the columns of those chunks are finished, the others as they were. -/
theorem dxAcc_at (n : ℕ) (hn : n ≤ 14) (r : Fin 512) (c : Fin 7168) :
    (dxAcc (F := Ideal) s t x7 a n (ix2 r c) : EReal) = if c.val < 512 * n then dxv s t x7 a r c else a (ix2 r c) := by
  induction n generalizing r c with
  | zero => rw [if_neg (by omega)]; rfl
  | succ n ih =>
    have hn' : n < 14 := by omega
    rw [dxAcc, dif_pos hn']
    refine (put_at _ n _ r c).trans ?_
    by_cases h : 512 * n ≤ c.val ∧ c.val < 512 * n + 512
    · rw [dif_pos h, if_pos (by omega)]
      rw [pay12_at, pay11_at s t _ _ hf, chunk_at, ih (by omega), if_neg (show ¬ (512 * n + (c.val - 512 * n) < 512 * n) by omega)]
      unfold dxv
      have e : (⟨512 * n + (c.val - 512 * n), by omega⟩ : Fin 7168) = c := Fin.ext (by show 512 * n + (c.val - 512 * n) = c.val; omega)
      simp only [chunkA_at, e]
    · rw [dif_neg h, ih (by omega)]
      by_cases h2 : c.val < 512 * n
      · rw [if_pos h2, if_pos (by omega)]
      · rw [if_neg h2, if_neg (by omega)]

theorem dxF_at (r : Fin 512) (c : Fin 7168) : (dxF (F := Ideal) s x7 a t (ix2 r c) : EReal) = dxv s t x7 a r c := by
  have := dxAcc_at s t x7 a hf 14 (le_refl _) r c
  rw [if_pos (by omega)] at this
  exact this

/-- The row maxima after `n` chunks: the least upper bound of zero and the magnitudes of those chunks' columns. -/
theorem amaxRec_le (n : ℕ) (hn : n ≤ 14) (r : Fin 512) (z : EReal) :
    (amaxRec (F := Ideal) s t x7 a n (ix2 r 0) : EReal) ≤ z ↔ 0 ≤ z ∧ ∀ c : Fin 7168, c.val < 512 * n → mag (dxv s t x7 a r c) ≤ z := by
  induction n with
  | zero =>
    have : (amaxRec (F := Ideal) s t x7 a 0 (ix2 r 0) : EReal) = 0 := by
      show (k0_pay10 (F := Ideal) (ix2 r 0) : EReal) = 0
      pointwise [k0_pay10]
    rw [this]
    exact ⟨fun h => ⟨h, fun c hc => absurd hc (by omega)⟩, fun h => h.1⟩
  | succ n ih =>
    have hn' : n < 14 := by omega
    have e : (amaxRec (F := Ideal) s t x7 a (n + 1) (ix2 r 0) : EReal)
        = max (amaxRec (F := Ideal) s t x7 a n (ix2 r 0)) (Finset.fold max (Ideal.ofBits .f32 4286578688#32)
          (fun x : Fin 512 => mag (k0_pay11 (F := Ideal) s t (chunkA x7 ⟨n, hn'⟩) (chunk (dxAcc s t x7 a n) ⟨n, hn'⟩) (ix2 r x))) Finset.univ) := by
      rw [amaxRec, dif_pos hn']
      pointwise [k0_pay13]
      rfl
    rw [e, max_le_iff, ih (by omega), Finset.fold_max_le, negInf]
    have key : ∀ x : Fin 512, (k0_pay11 (F := Ideal) s t (chunkA x7 ⟨n, hn'⟩) (chunk (dxAcc s t x7 a n) ⟨n, hn'⟩) (ix2 r x) : EReal)
        = dxv s t x7 a r ⟨512 * n + x.val, by omega⟩ := fun x => by
      rw [pay11_at s t _ _ hf, chunk_at, dxAcc_at s t x7 a hf n (by omega), if_neg (show ¬ (512 * n + x.val < 512 * n) by omega)]
      unfold dxv
      simp only [chunkA_at]
    constructor
    · rintro ⟨⟨h0, h1⟩, -, h2⟩
      refine ⟨h0, fun c hc => ?_⟩
      by_cases hcn : c.val < 512 * n
      · exact h1 c hcn
      · have := h2 ⟨c.val - 512 * n, by omega⟩ (Finset.mem_univ _)
        rw [key] at this
        have e : (⟨512 * n + (c.val - 512 * n), by omega⟩ : Fin 7168) = c := Fin.ext (by show 512 * n + (c.val - 512 * n) = c.val; omega)
        simp only [e] at this
        exact this
    · rintro ⟨h0, h1⟩
      refine ⟨⟨h0, fun c hc => h1 c (by omega)⟩, bot_le, fun x _ => ?_⟩
      rw [key]
      exact h1 _ (by show 512 * n + x.val < 512 * (n + 1); omega)

theorem amaxF_le (r : Fin 512) (z : EReal) :
    (amaxF (F := Ideal) s x7 a t (ix2 r 0) : EReal) ≤ z ↔ 0 ≤ z ∧ ∀ c : Fin 7168, mag (dxv s t x7 a r c) ≤ z := by
  refine (amaxRec_le s t x7 a hf 14 (le_refl _) r z).trans ?_
  exact ⟨fun h => ⟨h.1, fun c => h.2 c (by omega)⟩, fun h => ⟨h.1, fun c _ => h.2 c⟩⟩

omit hf in
theorem dxOut_at (d : Vec Ideal S512x7168 .f32) (Y : Vec Ideal S512x7168 .bf16) (n : ℕ) (hn : n ≤ 14) (r : Fin 512) (c : Fin 7168) :
    (dxOut (F := Ideal) d Y n (ix2 r c) : EReal) = if c.val < 512 * n then (d (ix2 r c) : EReal) else Y (ix2 r c) := by
  induction n generalizing r c with
  | zero => rw [if_neg (by omega)]; rfl
  | succ n ih =>
    have hn' : n < 14 := by omega
    rw [dxOut, dif_pos hn']
    refine (put_at _ n _ r c).trans ?_
    by_cases h : 512 * n ≤ c.val ∧ c.val < 512 * n + 512
    · rw [dif_pos h, if_pos (by omega)]
      show (chunk d ⟨n, hn'⟩ (ix2 r ⟨c.val - 512 * n, by omega⟩) : EReal) = _
      rw [chunk_at]
      have e : (⟨512 * n + (c.val - 512 * n), by omega⟩ : Fin 7168) = c := Fin.ext (by show 512 * n + (c.val - 512 * n) = c.val; omega)
      simp only [e]
    · rw [dif_neg h, ih (by omega)]
      by_cases h2 : c.val < 512 * n
      · rw [if_pos h2, if_pos (by omega)]
      · rw [if_neg h2, if_neg (by omega)]

omit hf in
theorem codesOut_at (v88 : IVec S512x1 1) (v92 : IVec S512x1 32) (d : Vec Ideal S512x7168 .f32) (Y : Vec Ideal S512x7168 .fp8e5m2) (n : ℕ) (hn : n ≤ 14) (r : Fin 512) (c : Fin 7168) :
    (codesOut (F := Ideal) v88 v92 d Y n (ix2 r c) : EReal) = if c.val < 512 * n then clampq ((d (ix2 r c) : EReal)
      * Ideal.ofBits .f32 (IntOp.shli ArithUnit.vector (IntOp.subi 127#32 (Scalar.select (v88 (ix2 r 0)) 0#32 (IntOp.subi (v92 (ix2 r 0)) 126#32))) 23#32)) else Y (ix2 r c) := by
  induction n generalizing r c with
  | zero => rw [if_neg (by omega)]; rfl
  | succ n ih =>
    have hn' : n < 14 := by omega
    rw [codesOut, dif_pos hn']
    refine (put_at _ n _ r c).trans ?_
    by_cases h : 512 * n ≤ c.val ∧ c.val < 512 * n + 512
    · rw [dif_pos h, if_pos (by omega)]
      have e : (⟨512 * n + (c.val - 512 * n), by omega⟩ : Fin 7168) = c := Fin.ext (by show 512 * n + (c.val - 512 * n) = c.val; omega)
      pointwise [k0_pay7, k0_pay4]
      rw [chunk_at]
      simp only [e]
    · rw [dif_neg h, ih (by omega)]
      by_cases h2 : c.val < 512 * n
      · rw [if_pos h2, if_pos (by omega)]
      · rw [if_neg h2, if_neg (by omega)]

omit hf in
theorem pay16_at (v : FVec Ideal S512x1 .f32) (r : Fin 512) : k0_pay16 (F := Ideal) v (ix2 r 0) = field ((v (ix2 r 0) : EReal) * Ideal.ofBits .f32 932333861#32) := by
  pointwise [k0_pay16, k0_pay14]
  rfl

omit hf in
theorem pay15_at (v : FVec Ideal S512x1 .f32) (r : Fin 512) :
    k0_pay15 (F := Ideal) v (ix2 r 0) = BitVec.ofBool (decide ((v (ix2 r 0) : EReal) * Ideal.ofBits .f32 932333861#32 = 0)) := by
  pointwise [k0_pay15, k0_pay14]

omit hf in
theorem scaleF_at (r : Fin 512) : (scaleF (F := Ideal) s x7 a t (ix2 r 0) : EReal)
    = Ideal.ofBits .f32 (IntOp.shli ArithUnit.vector (IntOp.addi (ksel ((amaxF (F := Ideal) s x7 a t (ix2 r 0) : EReal) * Ideal.ofBits .f32 932333861#32)) 127#32) 23#32) := by
  unfold scaleF ksel
  rw [← pay15_at, ← pay16_at]
  pointwise [k0_pay5, k0_pay4]

theorem codesF_at (Y : Vec Ideal S512x7168 .fp8e5m2) (r : Fin 512) (c : Fin 7168) : (codesF (F := Ideal) s x7 a t Y (ix2 r c) : EReal)
    = clampq (dxv s t x7 a r c * Ideal.ofBits .f32 (IntOp.shli ArithUnit.vector (IntOp.subi 127#32 (ksel ((amaxF (F := Ideal) s x7 a t (ix2 r 0) : EReal) * Ideal.ofBits .f32 932333861#32))) 23#32)) := by
  unfold codesF ksel
  rw [← pay15_at, ← pay16_at]
  refine (codesOut_at _ _ _ _ 14 (le_refl _) r c).trans ?_
  rw [if_pos (by omega), dxF_at s t x7 a hf]

theorem dxOutF_at (Y : Vec Ideal S512x7168 .bf16) (r : Fin 512) (c : Fin 7168) :
    (dxOut (F := Ideal) (dxF s x7 a t) Y 14 (ix2 r c) : EReal) = dxv s t x7 a r c := by
  refine (dxOut_at _ _ 14 (le_refl _) r c).trans ?_
  rw [if_pos (by omega), dxF_at s t x7 a hf]

end Cert.KernelIdeal.Hand

end
-- ==== Proof.Main.Accum.lean ====
/- What the main call's scratch holds at the extended reals: the two accumulators at a row block's end as sums over the
   whole contracted axis, and the split adapter operand of the row block. -/
module

public import proofs.«01_k».proof.Proof.Main.Body
public import proofs.«01_k».proof.Proof.Main.Chunks

@[expose] public section

set_option maxRecDepth 16384

noncomputable section

namespace Cert.KernelIdeal.Hand

open Cert.KernelIdeal Cert.KernelIdeal.Gen
open Idealize.ShloMosaic Idealize.ShloMosaic.TcCoe
open Cert.Reals

theorem idx : ∀ t : Fin cfg0.N, win0_0.index t = ![t.val / 18, t.val % 18] ∧ win0_1.index t = ![t.val / 18, 0] ∧ win0_2.index t = ![0, t.val % 18]
    ∧ win0_3.index t = ![0, t.val % 18] ∧ win0_4.index t = ![0, t.val % 18] ∧ win0_5.index t = ![0, 0] ∧ win0_6.index t = ![t.val / 18, 0]
    ∧ win0_7.index t = ![t.val / 18, 0] ∧ win0_8.index t = ![t.val / 18, 0] ∧ win0_9.index t = ![t.val / 18, 0] ∧ win0_10.index t = ![t.val / 18, 0]
    ∧ win0_11.index t = ![0, 0] :=
  (by decide +kernel : ∀ t : Fin grid0.N, _)

theorem ltN (t : Fin cfg0.N) : t.val < 432 := lt_of_lt_of_eq t.isLt (show cfg0.N = 432 from N_0)

variable (m : (ℓ : Loc nD τ sig) → Buf (Elt Ideal) ℓ) (c : Dev nD)

/-! ## The operands by name -/

abbrev DY : Vec Ideal S12288x18432 .fp8e5m2 := V m c main_v2
abbrev SC : Vec Ideal S12288x1 .f32 := V m c main_v3
abbrev W0 : Vec Ideal S7168x18432 .fp8e4m3 := V m c main_v1
abbrev WS : Vec Ideal S1x18432 .f32 := V m c main_v5
abbrev LB : Vec Ideal S32x18432 .bf16 := V m c main_arg5
abbrev LA : Vec Ideal S32x7168 .bf16 := V m c main_v4
abbrev XA : Vec Ideal S12288x32 .f32 := V m c main_arg6

/-- Row `r` of row block `q`, column `o` of column block `k`. -/
abbrev row (q : ℕ) (hq : q < 24) (r : Fin 512) : Fin 12288 := ⟨512 * q + r.val, by omega⟩
abbrev col (k : ℕ) (hk : k < 18) (o : Fin 1024) : Fin 18432 := ⟨1024 * k + o.val, by omega⟩

theorem hq (t : Fin cfg0.N) : t.val / 18 < 24 := by have := ltN t; omega
theorem hk (t : Fin cfg0.N) : t.val % 18 < 18 := Nat.mod_lt _ (by norm_num)

theorem iblk0_at (t : Fin cfg0.N) (r : Fin 512) (o : Fin 1024) :
    (iblk m c 0 t (ix2 r o) : EReal) = DY m c (ix2 (row (t.val / 18) (hq t) r) (col (t.val % 18) (hk t) o)) := by
  blk_point [iblk, idx t]
theorem iblk1_at (t : Fin cfg0.N) (r : Fin 512) :
    (iblk m c 1 t (ix2 r 0) : EReal) = SC m c (ix2 (row (t.val / 18) (hq t) r) 0) := by
  blk_point [iblk, idx t]
theorem iblk2_at (t : Fin cfg0.N) (j : Fin 7168) (o : Fin 1024) :
    (iblk m c 2 t (ix2 j o) : EReal) = W0 m c (ix2 j (col (t.val % 18) (hk t) o)) := by
  blk_point [iblk, idx t]
theorem iblk3_at (t : Fin cfg0.N) (o : Fin 1024) :
    (iblk m c 3 t (ix2 0 o) : EReal) = WS m c (ix2 0 (col (t.val % 18) (hk t) o)) := by
  blk_point [iblk, idx t]
theorem iblk4_at (t : Fin cfg0.N) (i : Fin 32) (o : Fin 1024) :
    (iblk m c 4 t (ix2 i o) : EReal) = LB m c (ix2 i (col (t.val % 18) (hk t) o)) := by
  blk_point [iblk, idx t]
theorem iblk5_at (t : Fin cfg0.N) (i : Fin 32) (j : Fin 7168) :
    (iblk m c 5 t (ix2 i j) : EReal) = LA m c (ix2 i j) := by
  blk_point [iblk, idx t]
theorem iblk6_at (t : Fin cfg0.N) (r : Fin 512) (i : Fin 32) :
    (iblk m c 6 t (ix2 r i) : EReal) = XA m c (ix2 (row (t.val / 18) (hq t) r) i) := by
  blk_point [iblk, idx t]

/-! ## The payloads -/

theorem pay21_at (a : Vec Ideal S512x7168 .f32) (x : Vec Ideal S512x1024 .fp8e5m2) (y : Vec Ideal S1x1024 .f32) (w : Vec Ideal S7168x1024 .fp8e4m3) (r : Fin 512) (j : Fin 7168) :
    (k0_pay21 (F := Ideal) a (k0_pay20 x y) w (ix2 r j) : EReal) = a (ix2 r j) + ∑ o : Fin 1024, (x (ix2 r o) * y (ix2 0 o) * w (ix2 j o) : EReal) := by
  pointwise [k0_pay21, k0_pay20]

theorem pay22_at (a : Vec Ideal S32x512 .f32) (b : Vec Ideal S32x1024 .bf16) (x : Vec Ideal S512x1024 .fp8e5m2) (i : Fin 32) (r : Fin 512) :
    (k0_pay1 (F := Ideal) (k0_pay22 (F := Ideal) a b x) (ix2 i r) : EReal) = a (ix2 i r) + ∑ o : Fin 1024, (b (ix2 i o) * x (ix2 r o) : EReal) := by
  pointwise [k0_pay1, k0_pay22]

/-! ## The accumulators -/

/-- The scratch before a point that does not start a row block is what the point before left. -/
theorem carry_prev (t : Fin cfg0.N) (h : ¬ t.val % 18 = 0) :
    carry m c t.val = (accAt m c ⟨t.val - 1, Nat.lt_of_le_of_lt (Nat.sub_le _ _) t.isLt⟩, tacAt m c ⟨t.val - 1, Nat.lt_of_le_of_lt (Nat.sub_le _ _) t.isLt⟩,
      xatAt m c ⟨t.val - 1, Nat.lt_of_le_of_lt (Nat.sub_le _ _) t.isLt⟩) := by
  rw [← carry_succ]
  congr 1
  show t.val = t.val - 1 + 1
  have : t.val ≠ 0 := fun e => h (by rw [e])
  omega

/-- One point's term of the accumulator. -/
def accT (t : Fin cfg0.N) (p : Fin 512 × Fin 7168) : EReal :=
  ∑ o : Fin 1024, (DY m c (ix2 (row (t.val / 18) (hq t) p.1) (col (t.val % 18) (hk t) o)) * WS m c (ix2 0 (col (t.val % 18) (hk t) o))
    * W0 m c (ix2 p.2 (col (t.val % 18) (hk t) o)) : EReal)

theorem accAt_eq (t : Fin cfg0.N) (r : Fin 512) (j : Fin 7168) :
    (accAt m c t (ix2 r j) : EReal) = acc0 (grid0.coords t) (carry m c t.val).1 (ix2 r j) + accT m c t (r, j) := by
  unfold accAt acc1
  refine (pay21_at _ _ _ _ r j).trans ?_
  unfold accT
  simp only [iblk0_at, iblk2_at, iblk3_at]

theorem acc_first (t : Fin cfg0.N) (h : t.val % 18 = 0) (p : Fin 512 × Fin 7168) : (accAt m c t (ix2 p.1 p.2) : EReal) = 0 + accT m c t p := by
  rw [accAt_eq, acc0, if_pos ((hcond0_0 t).mpr h)]
  congr 1
  pointwise [k0_pay17]

theorem acc_next (t : Fin cfg0.N) (h : ¬ t.val % 18 = 0) (p : Fin 512 × Fin 7168) : (accAt m c t (ix2 p.1 p.2) : EReal)
    = accAt m c ⟨t.val - 1, Nat.lt_of_le_of_lt (Nat.sub_le _ _) t.isLt⟩ (ix2 p.1 p.2) + accT m c t p := by
  rw [accAt_eq, acc0, if_neg (fun e => h ((hcond0_0 t).mp e)), carry_prev m c t h]

/-- The accumulator at a row block's end: the whole contracted axis. -/
theorem acc_end (t : Fin cfg0.N) (h : t.val % 18 = 17) (r : Fin 512) (j : Fin 7168) : (accAt m c t (ix2 r j) : EReal)
    = ∑ o : Fin 18432, (DY m c (ix2 (row (t.val / 18) (hq t) r) o) * WS m c (ix2 0 o) * W0 m c (ix2 j o) : EReal) := by
  have := Pipeline.eq_sum_fin_of_reset_step_apply_of_flush (M := EReal) (ι := Fin 512 × Fin 7168)
    (fun n h p => (accAt m c ⟨n, h⟩ (ix2 p.1 p.2) : EReal)) 18 (fun _ => (0 : EReal)) (fun t p => accT m c t p)
    (fun t h p => acc_first m c t h p) (fun t h p => acc_next m c t h p) t h (r, j)
  refine this.trans ((zero_add _).trans ?_)
  refine Fin.sum_mul_add_congr fun s o hl => ?_
  have e1 : (18 * (t.val / 18) + s.val) / 18 = t.val / 18 := by omega
  have e2 : (18 * (t.val / 18) + s.val) % 18 = s.val := by omega
  have er : row ((18 * (t.val / 18) + s.val) / 18) (by rw [e1]; exact hq t) r = row (t.val / 18) (hq t) r := Fin.ext (by simp only [e1])
  have ec : col ((18 * (t.val / 18) + s.val) % 18) (by omega) o = ⟨s.val * 1024 + o.val, hl⟩ := Fin.ext (by simp only [e2]; omega)
  show (DY m c (ix2 (row ((18 * (t.val / 18) + s.val) / 18) _ r) (col ((18 * (t.val / 18) + s.val) % 18) _ o)) * _ * _ : EReal) = _
  simp only [er, ec]

/-- One point's term of the adapter accumulator. -/
def tacT (t : Fin cfg0.N) (p : Fin 32 × Fin 512) : EReal :=
  ∑ o : Fin 1024, (LB m c (ix2 p.1 (col (t.val % 18) (hk t) o)) * DY m c (ix2 (row (t.val / 18) (hq t) p.2) (col (t.val % 18) (hk t) o)) : EReal)

theorem tacAt_eq (t : Fin cfg0.N) (i : Fin 32) (r : Fin 512) :
    (tacAt m c t (ix2 i r) : EReal) = tac0 (grid0.coords t) (carry m c t.val).2.1 (ix2 i r) + tacT m c t (i, r) := by
  unfold tacAt tac1
  refine (pay22_at _ _ _ i r).trans ?_
  unfold tacT
  simp only [iblk0_at, iblk4_at]

theorem tac_first (t : Fin cfg0.N) (h : t.val % 18 = 0) (p : Fin 32 × Fin 512) : (tacAt m c t (ix2 p.1 p.2) : EReal) = 0 + tacT m c t p := by
  rw [tacAt_eq, tac0, if_pos ((hcond0_0 t).mpr h)]
  congr 1
  pointwise [k0_pay18]

theorem tac_next (t : Fin cfg0.N) (h : ¬ t.val % 18 = 0) (p : Fin 32 × Fin 512) : (tacAt m c t (ix2 p.1 p.2) : EReal)
    = tacAt m c ⟨t.val - 1, Nat.lt_of_le_of_lt (Nat.sub_le _ _) t.isLt⟩ (ix2 p.1 p.2) + tacT m c t p := by
  rw [tacAt_eq, tac0, if_neg (fun e => h ((hcond0_0 t).mp e)), carry_prev m c t h]

/-- The adapter accumulator at a row block's end: the whole contracted axis. -/
theorem tac_end (t : Fin cfg0.N) (h : t.val % 18 = 17) (i : Fin 32) (r : Fin 512) : (tacAt m c t (ix2 i r) : EReal)
    = ∑ o : Fin 18432, (LB m c (ix2 i o) * DY m c (ix2 (row (t.val / 18) (hq t) r) o) : EReal) := by
  have := Pipeline.eq_sum_fin_of_reset_step_apply_of_flush (M := EReal) (ι := Fin 32 × Fin 512)
    (fun n h p => (tacAt m c ⟨n, h⟩ (ix2 p.1 p.2) : EReal)) 18 (fun _ => (0 : EReal)) (fun t p => tacT m c t p)
    (fun t h p => tac_first m c t h p) (fun t h p => tac_next m c t h p) t h (i, r)
  refine this.trans ((zero_add _).trans ?_)
  refine Fin.sum_mul_add_congr fun s o hl => ?_
  have e1 : (18 * (t.val / 18) + s.val) / 18 = t.val / 18 := by omega
  have e2 : (18 * (t.val / 18) + s.val) % 18 = s.val := by omega
  have er : row ((18 * (t.val / 18) + s.val) / 18) (by rw [e1]; exact hq t) r = row (t.val / 18) (hq t) r := Fin.ext (by simp only [e1])
  have ec : col ((18 * (t.val / 18) + s.val) % 18) (by omega) o = ⟨s.val * 1024 + o.val, hl⟩ := Fin.ext (by simp only [e2]; omega)
  show (LB m c (ix2 i (col ((18 * (t.val / 18) + s.val) % 18) _ o)) * DY m c (ix2 (row ((18 * (t.val / 18) + s.val) / 18) _ r) (col ((18 * (t.val / 18) + s.val) % 18) _ o)) : EReal) = _
  simp only [er, ec]

/-! ## The split adapter operand -/

/-- The scaled adapter input of a row. -/
def xs (x : Fin 12288) (i : Fin 32) : EReal := XA m c (ix2 x i) * SC m c (ix2 x 0)

theorem pay19_parts (x8 : Vec Ideal S512x32 .f32) (x3 : Vec Ideal S512x1 .f32) (hf : ∀ r i, Fin' (x8 (ix2 r i) * x3 (ix2 r 0) : EReal)) (i : Fin 32) (r : Fin 512) :
    (k0_pay19 (F := Ideal) x8 x3 (ix2 ⟨i.val, by omega⟩ r) : EReal) = x8 (ix2 r i) * x3 (ix2 r 0)
      ∧ (k0_pay19 (F := Ideal) x8 x3 (ix2 ⟨32 + i.val, by omega⟩ r) : EReal) = 0
      ∧ (k0_pay19 (F := Ideal) x8 x3 (ix2 ⟨64 + i.val, by omega⟩ r) : EReal) = 0 := by
  refine ⟨?_, ?_, ?_⟩
  · pointwise [k0_pay19]
  · pointwise [k0_pay19]
    exact (hf r _).sub_self
  · pointwise [k0_pay19]
    simp only [dif_neg (show ¬ 64 + (i : ℕ) < 32 by omega), dif_neg (show ¬ 64 + (i : ℕ) - 32 < 32 by omega), (hf r _).sub_self, sub_zero]

theorem xat_start (t : Fin cfg0.N) (h : t.val % 18 = 0) : xatAt m c t = k0_pay19 (iblk m c 6 t) (iblk m c 1 t) := by
  unfold xatAt xat1
  rw [if_pos ((hcond0_0 t).mpr h)]

theorem xat_next (t : Fin cfg0.N) (h : ¬ t.val % 18 = 0) : xatAt m c t = xatAt m c ⟨t.val - 1, Nat.lt_of_le_of_lt (Nat.sub_le _ _) t.isLt⟩ := by
  rw [xatAt, xat1, if_neg (fun e => h ((hcond0_0 t).mp e)), carry_prev m c t h]

/-- The split operand at any point of a row block: the scaled adapter input of its rows, and two zero parts. -/
theorem xat_at (hX : ∀ x i, Fin' (xs m c x i)) (n : ℕ) (hn : n < cfg0.N) (i : Fin 32) (r : Fin 512) :
    (xatAt m c ⟨n, hn⟩ (ix2 ⟨i.val, by omega⟩ r) : EReal) = xs m c (row (n / 18) (hq ⟨n, hn⟩) r) i
      ∧ (xatAt m c ⟨n, hn⟩ (ix2 ⟨32 + i.val, by omega⟩ r) : EReal) = 0
      ∧ (xatAt m c ⟨n, hn⟩ (ix2 ⟨64 + i.val, by omega⟩ r) : EReal) = 0 := by
  induction n with
  | zero =>
    rw [xat_start m c ⟨0, hn⟩ rfl]
    have := pay19_parts (iblk m c 6 ⟨0, hn⟩) (iblk m c 1 ⟨0, hn⟩) (fun r i => by rw [iblk6_at, iblk1_at]; exact hX _ i) i r
    rw [iblk6_at, iblk1_at] at this
    exact this
  | succ n ih =>
    by_cases h : (n + 1) % 18 = 0
    · rw [xat_start m c ⟨n + 1, hn⟩ h]
      have := pay19_parts (iblk m c 6 ⟨n + 1, hn⟩) (iblk m c 1 ⟨n + 1, hn⟩) (fun r i => by rw [iblk6_at, iblk1_at]; exact hX _ i) i r
      rw [iblk6_at, iblk1_at] at this
      exact this
    · rw [xat_next m c ⟨n + 1, hn⟩ h]
      have := ih (by omega)
      have e : row (n / 18) (hq ⟨n, by omega⟩) r = row ((n + 1) / 18) (hq ⟨n + 1, hn⟩) r := Fin.ext (by show 512 * (n / 18) + r.val = 512 * ((n + 1) / 18) + r.val; omega)
      rw [e] at this
      exact this

end Cert.KernelIdeal.Hand

end
-- ==== Proof.Main.Db.lean ====
/- What the main call leaves of `dB` in its resident window: by column chunk, the sum over the row blocks met so far. -/
module

public import proofs.«01_k».proof.Proof.Main.Accum

@[expose] public section

set_option maxRecDepth 16384

noncomputable section

namespace Cert.KernelIdeal.Hand

open Cert.KernelIdeal Cert.KernelIdeal.Gen
open Idealize.ShloMosaic Idealize.ShloMosaic.TcCoe
open Cert.Reals

/-- The product of the split operand with the block, its two zero parts gone. -/
theorem pay2_at (a : Vec Ideal S96x512 .bf16) (b : Vec Ideal S512x1024 .fp8e5m2) (g : Fin 512 → EReal) (i : Fin 32) (o : Fin 1024)
    (h0 : ∀ r, (a (ix2 ⟨i.val, by omega⟩ r) : EReal) = g r) (h1 : ∀ r, (a (ix2 ⟨32 + i.val, by omega⟩ r) : EReal) = 0)
    (h2 : ∀ r, (a (ix2 ⟨64 + i.val, by omega⟩ r) : EReal) = 0) :
    (k0_pay2 (F := Ideal) a b (ix2 i o) : EReal) = (∑ r : Fin 512, g r * b (ix2 r o)) * Ideal.ofBits .f32 1073741824#32 := by
  pointwise [k0_pay2]
  simp only [h0, h1, h2, zero_mul, Finset.sum_const_zero, add_zero]

theorem pay3_at (a : Vec Ideal S96x512 .bf16) (b : Vec Ideal S512x1024 .fp8e5m2) (d : Vec Ideal S32x1024 .f32) (i : Fin 32) (o : Fin 1024) :
    (k0_pay3 (F := Ideal) a b d (ix2 i o) : EReal) = d (ix2 i o) + k0_pay2 (F := Ideal) a b (ix2 i o) := by
  pointwise [k0_pay3, k0_pay2]

variable (m : (ℓ : Loc nD τ sig) → Buf (Elt Ideal) ℓ) (c : Dev nD)

/-- Row block `q`'s share of `dB`. -/
def dbT (q : ℕ) (i : Fin 32) (o : Fin 18432) : EReal :=
  if h : q < 24 then (∑ r : Fin 512, xs m c (row q h r) i * DY m c (ix2 (row q h r) o)) * 2 else 0

/-- The number of row blocks whose share column `o` holds after point `n`. -/
def cnt' (n : ℕ) (o : Fin 18432) : ℕ := n / 18 + if o.val / 1024 ≤ n % 18 then 1 else 0

/-- The window after a point: the column chunks met hold the sum of the shares so far. -/
def DbHolds (n : ℕ) (X : Vec Ideal S32x18432 .f32) : Prop :=
  ∀ i o, 0 < cnt' n o → (X (ix2 i o) : EReal) = ∑ q ∈ Finset.range (cnt' n o), dbT m c q i o

theorem coords1 (t : Fin cfg0.N) : ((grid0.coords t) 1).val = t.val % 18 := by
  have e1 : (grid0.coords t 1).val = t.val / 1 % 18 := Pipeline.Grid.coords_val t 1 (by decide) rfl
  rw [Nat.div_one] at e1
  exact e1

/-- The share a point adds to its chunk. -/
theorem share (hX : ∀ x i, Fin' (xs m c x i)) (t : Fin cfg0.N) (i : Fin 32) (o : Fin 1024) :
    (k0_pay2 (F := Ideal) (xatAt m c t) (iblk m c 0 t) (ix2 i o) : EReal) = dbT m c (t.val / 18) i (col (t.val % 18) (hk t) o) := by
  refine (pay2_at (xatAt m c t) (iblk m c 0 t) (fun r => xs m c (row (t.val / 18) (hq t) r) i) i o (fun r => (xat_at m c hX t.val t.isLt i r).1)
    (fun r => (xat_at m c hX t.val t.isLt i r).2.1) (fun r => (xat_at m c hX t.val t.isLt i r).2.2)).trans ?_
  rw [two]
  unfold dbT
  rw [dif_pos (hq t)]
  refine congrArg (· * (2 : EReal)) (Finset.sum_congr rfl fun r _ => ?_)
  rw [iblk0_at]

/-- A column of another chunk keeps its contents. -/
theorem db1_off (t : Fin cfg0.N) (Y : Vec Ideal S32x18432 .f32) (i : Fin 32) (o : Fin 18432) (h : o.val / 1024 ≠ t.val % 18) :
    db1 (F := Ideal) (grid0.coords t) (iblk m c 0 t) (xatAt m c t) Y (ix2 i o) = Y (ix2 i o) := by
  unfold db1 VecWindow.put
  rw [dif_neg]
  intro hh
  have := hh 1
  have e : (ix2 i o : S32x18432.Idx) 1 = o := rfl
  have h1 : 1024 * ((grid0.coords t) 1).val ≤ o.val ∧ o.val < 1024 * ((grid0.coords t) 1).val + 1024 := this
  rw [coords1] at h1
  omega

/-- A column of the point's own chunk takes the share, alone at the first row block and added to what it held at a later one. -/
theorem db1_on (hX : ∀ x i, Fin' (xs m c x i)) (t : Fin cfg0.N) (Y : Vec Ideal S32x18432 .f32) (i : Fin 32) (o : Fin 18432) (h : o.val / 1024 = t.val % 18) :
    (db1 (F := Ideal) (grid0.coords t) (iblk m c 0 t) (xatAt m c t) Y (ix2 i o) : EReal)
      = (if t.val < 18 then 0 else Y (ix2 i o)) + dbT m c (t.val / 18) i o := by
  have hin : ∀ a : Fin 2, (![0, 1024 * ((grid0.coords t) 1).val] : Fin 2 → ℕ) a ≤ ((ix2 i o : S32x18432.Idx) a).val
      ∧ ((ix2 i o : S32x18432.Idx) a).val < (![0, 1024 * ((grid0.coords t) 1).val] : Fin 2 → ℕ) a + S32x1024.size a := by
    intro a
    match a with
    | 0 => exact ⟨Nat.zero_le _, by show i.val < 0 + 32; omega⟩
    | 1 =>
      show 1024 * ((grid0.coords t) 1).val ≤ o.val ∧ o.val < 1024 * ((grid0.coords t) 1).val + 1024
      rw [coords1]; omega
  have ho : o.val - 1024 * (t.val % 18) < 1024 := by omega
  have hc : col (t.val % 18) (hk t) ⟨o.val - 1024 * (t.val % 18), ho⟩ = o := Fin.ext (by show 1024 * (t.val % 18) + (o.val - 1024 * (t.val % 18)) = o.val; omega)
  have hloc : Rect.unitLocal (ix2 i o : S32x18432.Idx) hin = (ix2 i ⟨o.val - 1024 * (t.val % 18), ho⟩ : S32x1024.Idx) := by
    funext a
    match a with
    | 0 => rfl
    | 1 => exact Fin.ext (by show o.val - 1024 * ((grid0.coords t) 1).val = o.val - 1024 * (t.val % 18); rw [coords1])
  have hs := share m c hX t i ⟨o.val - 1024 * (t.val % 18), ho⟩
  rw [hc] at hs
  unfold db1 VecWindow.put
  rw [dif_pos hin, hloc]
  by_cases ht : t.val < 18
  · rw [if_pos ((hcond0_1 t).mpr ht), if_pos ht, zero_add]
    exact hs
  · rw [if_neg (fun e => ht ((hcond0_1 t).mp e)), if_neg ht, pay3_at, hs]
    congr 1
    unfold dbOld VecWindow.window
    congr 1
    funext a
    match a with
    | 0 => exact Fin.ext (by show 0 + 1 * i.val = i.val; omega)
    | 1 => exact Fin.ext (by show 1024 * ((grid0.coords t) 1).val + 1 * (o.val - 1024 * (t.val % 18)) = o.val; rw [coords1]; omega)

/-- One point, from what the point before left. -/
theorem db_step (hX : ∀ x i, Fin' (xs m c x i)) (t : Fin cfg0.N) (Y : Vec Ideal S32x18432 .f32) (hY : t.val ≠ 0 → DbHolds m c (t.val - 1) Y) :
    DbHolds m c t.val (db1 (F := Ideal) (grid0.coords t) (iblk m c 0 t) (xatAt m c t) Y) := by
  intro i o hpos
  have ho := o.isLt
  by_cases h : o.val / 1024 = t.val % 18
  · rw [db1_on m c hX t Y i o h]
    have hcnt : cnt' t.val o = t.val / 18 + 1 := by unfold cnt'; rw [if_pos (by omega)]
    rw [hcnt, Finset.sum_range_succ]
    congr 1
    by_cases ht : t.val < 18
    · rw [if_pos ht, Nat.div_eq_of_lt ht, Finset.range_zero, Finset.sum_empty]
    · have e : cnt' (t.val - 1) o = t.val / 18 := by
        unfold cnt'
        split <;> omega
      rw [if_neg ht, hY (by omega) i o (by omega), e]
  · rw [db1_off m c t Y i o h]
    have e : cnt' t.val o = cnt' (t.val - 1) o := by
      unfold cnt'
      unfold cnt' at hpos
      split at hpos <;> split <;> split <;> omega
    have h0 : t.val ≠ 0 := by
      intro h0
      unfold cnt' at hpos
      rw [h0] at hpos h
      split at hpos <;> omega
    rw [hY h0 i o (by omega), e]

/-- Whatever the body may leave there at a point. -/
theorem db_leaves (hX : ∀ x i, Fin' (xs m c x i)) (n : ℕ) (hn : n < cfg0.N) (X) (hL : (rdat m c).Leaves 11 ⟨n, hn⟩ X) : DbHolds m c n X := by
  induction n generalizing X with
  | zero =>
    obtain ⟨Y, hY, hA⟩ := hL
    have hA' : X = db1 (F := Ideal) (grid0.coords ⟨0, hn⟩) (iblk m c 0 ⟨0, hn⟩) (xatAt m c ⟨0, hn⟩) Y := hA
    rw [hA']
    exact db_step m c hX ⟨0, hn⟩ Y (fun h => absurd rfl h)
  | succ n ih =>
    obtain ⟨Y, hY, hA⟩ := hL
    have hA' : X = db1 (F := Ideal) (grid0.coords ⟨n + 1, hn⟩) (iblk m c 0 ⟨n + 1, hn⟩) (xatAt m c ⟨n + 1, hn⟩) Y := hA
    rw [hA']
    refine db_step m c hX ⟨n + 1, hn⟩ Y (fun _ => ?_)
    rw [(rdat m c).finds_of_pos rfl (by simp)] at hY
    rcases hY with hY | hY
    · exfalso
      have h432 := ltN ⟨n + 1, hn⟩
      have := (flush0_11 (⟨n, by omega⟩ : Fin cfg0.N)).mp hY
      simp only at this h432
      omega
    · exact ih (by omega) Y hY

/-- All the shares together. -/
theorem shares (i : Fin 32) (o : Fin 18432) : ∑ q ∈ Finset.range 24, dbT m c q i o = (∑ x : Fin 12288, xs m c x i * DY m c (ix2 x o)) * 2 := by
  rw [← Fin.sum_univ_eq_sum_range (fun q => dbT m c q i o) 24]
  have h1 : ∀ q : Fin 24, dbT m c q.val i o = (∑ r : Fin 512, xs m c (row q.val q.isLt r) i * DY m c (ix2 (row q.val q.isLt r) o)) * 2 := fun q => by
    unfold dbT; rw [dif_pos q.isLt]
  rw [Finset.sum_congr rfl fun q _ => h1 q, ← sum_mul_two]
  refine congrArg (· * (2 : EReal)) (Fin.sum_mul_add_congr (f := fun x : Fin 12288 => xs m c x i * DY m c (ix2 x o)) fun s r hl => ?_)
  have e : row s.val s.isLt r = ⟨s.val * 512 + r.val, hl⟩ := Fin.ext (by show 512 * s.val + r.val = s.val * 512 + r.val; omega)
  rw [e]

/-- The window after the last point: every row's share. -/
theorem db_end (hX : ∀ x i, Fin' (xs m c x i)) (n : ℕ) (hn : n < cfg0.N) (ht : n = 431) (X) (hL : (rdat m c).Leaves 11 ⟨n, hn⟩ X) (i : Fin 32) (o : Fin 18432) :
    ((X : Vec Ideal S32x18432 .f32) (ix2 i o) : EReal) = (∑ x : Fin 12288, xs m c x i * DY m c (ix2 x o)) * 2 := by
  have h := db_leaves m c hX n hn X hL i o
  have ho := o.isLt
  have hc : cnt' n o = 24 := by unfold cnt'; rw [ht, if_pos (by omega)]
  rw [hc] at h
  exact (h (by norm_num)).trans (shares m c i o)

end Cert.KernelIdeal.Hand

end
-- ==== Proof.Main.Bounds.lean ====
/- The mathematics of the main call on plain tables of extended reals, and what the precondition bounds. -/
module

public import proofs.«01_k».proof.Proof.Quant

@[expose] public section

noncomputable section

namespace Cert.Reals

open Idealize.ShloMosaic

/-! ## Bytes of the two 8-bit formats -/

theorem bd_of_real {r b : ℝ} (h : |r| ≤ b) : Bd b (r : EReal) := ⟨r, rfl, h⟩

theorem sgn_abs (neg : Bool) : |(if neg then -1 else 1 : ℝ)| = 1 := by cases neg <;> simp

/-- Every finite `fp8e5m2` is at most `2^16` in magnitude. -/
theorem bd_e5m2 (b : BitVec 8) (h : (b.setWidth 32 &&& 124#32) ≠ 124#32) : Bd (2 ^ 16) (Ideal.ofBits .fp8e5m2 b) := by
  have hex : (b.extractLsb' 2 5).toNat ≠ 2 ^ 5 - 1 := by
    intro e
    apply h
    revert e
    revert b
    decide +kernel
  have hexlt : (b.extractLsb' 2 5).toNat < 2 ^ 5 := BitVec.isLt _
  have hfr : (b.extractLsb' 0 2).toNat < 2 ^ 2 := BitVec.isLt _
  have hfrR : ((b.extractLsb' 0 2).toNat : ℝ) ≤ 3 := by exact_mod_cast (by omega : (b.extractLsb' 0 2).toNat ≤ 3)
  have hfr0 : (0 : ℝ) ≤ ((b.extractLsb' 0 2).toNat : ℝ) := Nat.cast_nonneg _
  show Bd (2 ^ 16) (Ideal.ieee 5 2 b)
  unfold Ideal.ieee
  simp only [if_neg hex]
  split
  · refine bd_of_real ?_
    rw [abs_mul, abs_mul, sgn_abs, one_mul, abs_of_nonneg hfr0, abs_of_nonneg (by positivity)]
    calc _ ≤ (3 : ℝ) * 1 := mul_le_mul hfrR (zpow_le_one_of_nonpos₀ (by norm_num) (by norm_num)) (by positivity) (by norm_num)
      _ ≤ 2 ^ 16 := by norm_num
  · refine bd_of_real ?_
    rw [abs_mul, abs_mul, sgn_abs, one_mul, abs_of_nonneg (by positivity), abs_of_nonneg (by positivity)]
    have h1 : ((2 ^ 2 + (b.extractLsb' 0 2).toNat : ℕ) : ℝ) ≤ 7 := by push_cast; linarith
    calc _ ≤ (7 : ℝ) * 2 ^ (13 : ℤ) := mul_le_mul h1 (zpow_le_zpow_right₀ (by norm_num) (by rw [show ((2 : ℤ) ^ (5 - 1)) = 16 by norm_num]; push_cast; omega)) (by positivity) (by norm_num)
      _ ≤ 2 ^ 16 := by norm_num

/-- Every finite `fp8e4m3` is at most `2^9` in magnitude. -/
theorem bd_e4m3 (b : BitVec 8) (h : (b.setWidth 32 &&& 127#32) ≠ 127#32) : Bd (2 ^ 9) (Ideal.ofBits .fp8e4m3 b) := by
  have hnan : ¬ ((b.extractLsb' 3 4).toNat = 15 ∧ (b.extractLsb' 0 3).toNat = 7) := by
    intro e
    apply h
    revert e
    revert b
    decide +kernel
  have hexlt : (b.extractLsb' 3 4).toNat < 2 ^ 4 := BitVec.isLt _
  have hfr : (b.extractLsb' 0 3).toNat < 2 ^ 3 := BitVec.isLt _
  have hfrR : ((b.extractLsb' 0 3).toNat : ℝ) ≤ 7 := by exact_mod_cast (by omega : (b.extractLsb' 0 3).toNat ≤ 7)
  have hfr0 : (0 : ℝ) ≤ ((b.extractLsb' 0 3).toNat : ℝ) := Nat.cast_nonneg _
  show Bd (2 ^ 9) (Ideal.e4m3fn b)
  unfold Ideal.e4m3fn
  simp only [if_neg hnan]
  split
  · refine bd_of_real ?_
    rw [abs_mul, abs_mul, sgn_abs, one_mul, abs_of_nonneg hfr0, abs_of_nonneg (by positivity)]
    calc _ ≤ (7 : ℝ) * 1 := mul_le_mul hfrR (zpow_le_one_of_nonpos₀ (by norm_num) (by norm_num)) (by positivity) (by norm_num)
      _ ≤ 2 ^ 9 := by norm_num
  · refine bd_of_real ?_
    rw [abs_mul, abs_mul, sgn_abs, one_mul, abs_of_nonneg (by positivity), abs_of_nonneg (by positivity)]
    have h1 : ((8 + (b.extractLsb' 0 3).toNat : ℕ) : ℝ) ≤ 15 := by push_cast; linarith
    calc _ ≤ (15 : ℝ) * 2 ^ (5 : ℤ) := mul_le_mul h1 (zpow_le_zpow_right₀ (by norm_num) (by omega)) (by positivity) (by norm_num)
      _ ≤ 2 ^ 9 := by norm_num

/-- The precondition's bound. -/
theorem bound_bits : Ideal.ofBits .f32 0x4E800000#32 = (((2 : ℝ) ^ 30 : ℝ) : EReal) := by
  have hneg : (BitVec.extractLsb' 31 1 (0x4E800000#32) == 1#1) = false := by decide
  have hex : (BitVec.extractLsb' 23 8 (0x4E800000#32)).toNat = 157 := by decide
  have hfr : (BitVec.extractLsb' 0 23 (0x4E800000#32)).toNat = 0 := by decide
  simp only [Ideal.ofBits, Ideal.ieee, hneg, hex, hfr]
  norm_num

/-- A value the precondition bounds. -/
theorem bd_of_ole (x : EReal) (h : Ideal.cmp .ole (max x (-x)) (Ideal.ofBits .f32 0x4E800000#32) = 1#1) : Bd (2 ^ 30) x := by
  rw [bound_bits] at h
  have h' : max x (-x) ≤ (((2 : ℝ) ^ 30 : ℝ) : EReal) := by
    by_contra hn
    rw [show Ideal.cmp .ole (max x (-x)) (((2 : ℝ) ^ 30 : ℝ) : EReal) = BitVec.ofBool (decide (max x (-x) ≤ (((2 : ℝ) ^ 30 : ℝ) : EReal))) from rfl,
      decide_eq_false hn] at h
    exact absurd h (by decide)
  obtain ⟨h1, h2⟩ := max_le_iff.mp h'
  induction x with
  | bot => rw [EReal.neg_bot] at h2; exact absurd h2 (not_le.mpr (EReal.coe_lt_top _))
  | top => exact absurd h1 (not_le.mpr (EReal.coe_lt_top _))
  | coe r =>
    refine bd_of_real (abs_le.mpr ⟨?_, EReal.coe_le_coe_iff.mp h1⟩)
    have : -r ≤ (2 : ℝ) ^ 30 := by rw [← EReal.coe_neg] at h2; exact EReal.coe_le_coe_iff.mp h2
    linarith

/-! ## The mathematics -/

/-- The operands as tables. -/
structure Tabs where
  dy : Fin 12288 → Fin 18432 → EReal
  s : Fin 12288 → EReal
  w : Fin 7168 → Fin 18432 → EReal
  ws : Fin 18432 → EReal
  la : Fin 32 → Fin 7168 → EReal
  lb : Fin 32 → Fin 18432 → EReal
  xa : Fin 12288 → Fin 32 → EReal

namespace Tabs

variable (T : Tabs)

/-- `t = (dy · Bᵀ) · dy_scale`. -/
def t (r : Fin 12288) (i : Fin 32) : EReal := (∑ o, T.lb i o * T.dy r o) * T.s r
/-- `dx = (dy · (w0 w0_scale)ᵀ) · dy_scale + 2 t Aᵀ`. -/
def dx (r : Fin 12288) (j : Fin 7168) : EReal :=
  (∑ o, T.dy r o * T.ws o * T.w j o) * T.s r + Ideal.ofBits .f32 1073741824#32 * ∑ i, T.t r i * T.la i j
/-- `dB = 2 (xa dy_scale)ᵀ dy`. -/
def db (i : Fin 32) (o : Fin 18432) : EReal := Ideal.ofBits .f32 1073741824#32 * ∑ x, T.xa x i * T.s x * T.dy x o

/-- What the precondition says. -/
structure Mod : Prop where
  dy : ∀ r o, Bd (2 ^ 16) (T.dy r o)
  s : ∀ r, Bd (2 ^ 30) (T.s r)
  w : ∀ j o, Bd (2 ^ 9) (T.w j o)
  ws : ∀ o, Bd (2 ^ 30) (T.ws o)
  la : ∀ i j, Bd (2 ^ 30) (T.la i j)
  lb : ∀ i o, Bd (2 ^ 30) (T.lb i o)
  xa : ∀ x i, Fin' (T.xa x i)

variable {T}

theorem Mod.t (h : T.Mod) (r : Fin 12288) (i : Fin 32) : Bd (2 ^ 91) (T.t r i) := by
  refine ((Bd.sum Finset.univ fun o => (h.lb i o).mul (h.dy r o)).mul (h.s r)).mono ?_
  rw [Finset.card_univ, Fintype.card_fin]
  norm_num

theorem Mod.dx (h : T.Mod) (r : Fin 12288) (j : Fin 7168) : Bd (2 ^ 128) (T.dx r j) := by
  refine (((Bd.sum Finset.univ fun o => ((h.dy r o).mul (h.ws o)).mul (h.w j o)).mul (h.s r)).add
    (Bd.two.mul (Bd.sum Finset.univ fun i => (h.t r i).mul (h.la i j)))).mono ?_
  simp only [Finset.card_univ, Fintype.card_fin]
  norm_num

/-- A row's largest magnitude, whichever way it is taken, is a real number below `2^128`. -/
theorem Mod.amax (h : T.Mod) (r : Fin 12288) (a : EReal) (ha : ∀ z, a ≤ z ↔ 0 ≤ z ∧ ∀ j, max (T.dx r j) (-T.dx r j) ≤ z) :
    ∃ v : ℝ, a = (v : EReal) ∧ 0 ≤ v ∧ v ≤ 2 ^ 128 := by
  have h0 : 0 ≤ a := ((ha a).mp le_rfl).1
  have h1 : a ≤ (((2 : ℝ) ^ 128 : ℝ) : EReal) := by
    refine (ha _).mpr ⟨EReal.coe_nonneg.mpr (by positivity), fun j => ?_⟩
    obtain ⟨v, hv, hb⟩ := h.dx r j
    rw [hv, ← EReal.coe_neg, max_le_iff, EReal.coe_le_coe_iff, EReal.coe_le_coe_iff]
    exact ⟨(le_abs_self v).trans hb, (neg_le_abs v).trans hb⟩
  induction a with
  | bot => exact absurd h0 (by simp)
  | top => exact absurd h1 (not_le.mpr (EReal.coe_lt_top _))
  | coe v => exact ⟨v, rfl, EReal.coe_nonneg.mp h0, EReal.coe_le_coe_iff.mp h1⟩

/-- The exponent as the reference takes it from a row's largest magnitude. -/
def rexp (a : EReal) : EReal :=
  if a = 0 then 0 else max (Ideal.liftRound Int.floor (Ideal.div (Ideal.log (a * Ideal.ofBits .f32 932333861#32)) (Ideal.log (Ideal.ofBits .f32 1073741824#32))) + 1)
    (Ideal.ofBits .f32 3271294976#32)

/-- The kernel's two scales from a row's largest magnitude, with the exponent counted in integers, are the reference's. -/
theorem Mod.scales (h : T.Mod) (r : Fin 12288) (a : EReal) (ha : ∀ z, a ≤ z ↔ 0 ≤ z ∧ ∀ j, max (T.dx r j) (-T.dx r j) ≤ z) :
    Ideal.ofBits .f32 (IntOp.shli .vector (IntOp.addi (ksel (a * Ideal.ofBits .f32 932333861#32)) 127#32) 23#32) = Ideal.exp2 (rexp a)
      ∧ Ideal.ofBits .f32 (IntOp.shli .vector (IntOp.subi 127#32 (ksel (a * Ideal.ofBits .f32 932333861#32))) 23#32) = Ideal.exp2 (0 - rexp a) := by
  obtain ⟨v, hv, h0, h1⟩ := h.amax r a ha
  have hy : a * Ideal.ofBits .f32 932333861#32 = ((v * recip : ℝ) : EReal) := by rw [hv, recip_eq, EReal.coe_mul]
  have hz : a = 0 ↔ a * Ideal.ofBits .f32 932333861#32 = 0 := by
    rw [hy, hv, ← EReal.coe_zero, EReal.coe_eq_coe_iff, EReal.coe_eq_coe_iff]
    constructor
    · intro e; rw [e, zero_mul]
    · intro e; exact (mul_eq_zero.mp e).resolve_right recip_pos.ne'
  have hr : rexp a = rsel (a * Ideal.ofBits .f32 932333861#32) := by
    unfold rexp rsel
    by_cases e : a = 0
    · rw [if_pos e, if_pos (hz.mp e)]
    · rw [if_neg e, if_neg (fun e' => e (hz.mpr e'))]
  rw [hr]
  refine quant hy (mul_nonneg h0 recip_pos.le) ?_
  calc v * recip ≤ 2 ^ 128 * recip := mul_le_mul_of_nonneg_right h1 recip_pos.le
    _ < 2 ^ 128 * 2 ^ (-15 : ℤ) := mul_lt_mul_of_pos_left recip_lt (by positivity)
    _ < 2 ^ (126 : ℤ) := by norm_num

end Tabs

end Cert.Reals

end
-- ==== Proof.Main.Final.lean ====
/- The five result arrays of the main call after its run. -/
module

public import proofs.«01_k».proof.Proof.Main.Db
public import proofs.«01_k».proof.Proof.Main.Bounds
public import Idealize.ShloMosaic.Lib.Pipeline.ValueKit
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Cert.Reals

variable (m : (ℓ : Loc nD τ sig) → Buf (Elt Ideal) ℓ) (c : Dev nD)

/-- The tables of the call's operands. -/
abbrev TB : Tabs where
  dy r o := DY m c (ix2 r o)
  s r := SC m c (ix2 r 0)
  w j o := W0 m c (ix2 j o)
  ws o := WS m c (ix2 0 o)
  la i j := LA m c (ix2 i j)
  lb i o := LB m c (ix2 i o)
  xa x i := XA m c (ix2 x i)

theorem t_end (t : Fin cfg0.N) (h : t.val % 18 = 17) (i : Fin 32) (r : Fin 512) :
    (tacAt m c t (ix2 i r) * iblk m c 1 t (ix2 r 0) : EReal) = (TB m c).t (row (t.val / 18) (hq t) r) i := by
  rw [tac_end m c t h, iblk1_at]
  rfl

theorem t_fin (hM : (TB m c).Mod) (t : Fin cfg0.N) (h : t.val % 18 = 17) (i : Fin 32) (r : Fin 512) :
    Fin' (tacAt m c t (ix2 i r) * iblk m c 1 t (ix2 r 0) : EReal) := by
  rw [t_end m c t h]
  exact (hM.t _ _).fin

theorem dxv_end (t : Fin cfg0.N) (h : t.val % 18 = 17) (r : Fin 512) (j : Fin 7168) :
    dxv (iblk m c 1 t) (tacAt m c t) (iblk m c 5 t) (accAt m c t) r j = (TB m c).dx (row (t.val / 18) (hq t) r) j := by
  unfold dxv Tabs.dx
  rw [acc_end m c t h, iblk1_at]
  refine congrArg₂ (· + ·) rfl (congrArg (Ideal.ofBits .f32 1073741824#32 * ·) (Finset.sum_congr rfl fun i _ => ?_))
  rw [← t_end m c t h, iblk5_at, iblk1_at]

/-- A row's largest magnitude, as the kernel takes it. -/
abbrev am (t : Fin cfg0.N) (r : Fin 512) : EReal := amaxF (F := Ideal) (iblk m c 1 t) (iblk m c 5 t) (accAt m c t) (tacAt m c t) (ix2 r 0)

theorem am_le (hM : (TB m c).Mod) (t : Fin cfg0.N) (h : t.val % 18 = 17) (r : Fin 512) (z : EReal) :
    am m c t r ≤ z ↔ 0 ≤ z ∧ ∀ j, max ((TB m c).dx (row (t.val / 18) (hq t) r) j) (-(TB m c).dx (row (t.val / 18) (hq t) r) j) ≤ z := by
  refine (amaxF_le (iblk m c 1 t) (tacAt m c t) (iblk m c 5 t) (accAt m c t) (fun i r => t_fin m c hM t h i r) r z).trans ?_
  simp only [dxv_end m c t h]

/-- A row's largest magnitude, stated apart from how it is taken. -/
def AMX (T : Tabs) (r : Fin 12288) : EReal := max 0 (Finset.univ.sup fun j => max (T.dx r j) (-T.dx r j))

theorem amx_le (T : Tabs) (r : Fin 12288) (z : EReal) : AMX T r ≤ z ↔ 0 ≤ z ∧ ∀ j, max (T.dx r j) (-T.dx r j) ≤ z := by
  unfold AMX
  rw [max_le_iff, Finset.sup_le_iff]
  exact ⟨fun h => ⟨h.1, fun j => h.2 j (Finset.mem_univ _)⟩, fun h => ⟨h.1, fun j _ => h.2 j⟩⟩

theorem am_eq (hM : (TB m c).Mod) (t : Fin cfg0.N) (h : t.val % 18 = 17) (r : Fin 512) : am m c t r = AMX (TB m c) (row (t.val / 18) (hq t) r) :=
  eq_of_forall_ge_iff fun z => (am_le m c hM t h r z).trans (amx_le (TB m c) _ z).symm

/-! ## What each window leaves at a row block's end -/

theorem flush_end (w : Fin cfg0.W) (hw : w = 7 ∨ w = 8 ∨ w = 9 ∨ w = 10) (t : Fin cfg0.N) (hf : (cfg0.win w).flush t = true) : t.val % 18 = 17 := by
  rcases hw with rfl | rfl | rfl | rfl
  · exact (flush0_7 t).mp hf
  · exact (flush0_8 t).mp hf
  · exact (flush0_9 t).mp hf
  · exact (flush0_10 t).mp hf

theorem leaves7 (hM : (TB m c).Mod) (t : Fin cfg0.N) (h : t.val % 18 = 17) (X) (hL : (rdat m c).Leaves 7 t X) (r : Fin 512) (j : Fin 7168) :
    ((X : Vec Ideal S512x7168 .bf16) (ix2 r j) : EReal) = (TB m c).dx (row (t.val / 18) (hq t) r) j := by
  obtain ⟨Y, -, hA⟩ := hL
  have hA' : t.val % 18 = 17 → X = dxOut (F := Ideal) (dxF (iblk m c 1 t) (iblk m c 5 t) (accAt m c t) (tacAt m c t)) Y 14 := hA
  rw [hA' h]
  exact (dxOutF_at (iblk m c 1 t) (tacAt m c t) (iblk m c 5 t) (accAt m c t) (fun i r => t_fin m c hM t h i r) Y r j).trans (dxv_end m c t h r j)

theorem leaves8 (hM : (TB m c).Mod) (t : Fin cfg0.N) (h : t.val % 18 = 17) (X) (hL : (rdat m c).Leaves 8 t X) (r : Fin 512) (j : Fin 7168) :
    ((X : Vec Ideal S512x7168 .fp8e5m2) (ix2 r j) : EReal) = clampq ((TB m c).dx (row (t.val / 18) (hq t) r) j
      * Ideal.exp2 (0 - Tabs.rexp (AMX (TB m c) (row (t.val / 18) (hq t) r)))) := by
  obtain ⟨Y, -, hA⟩ := hL
  have hA' : t.val % 18 = 17 → X = codesF (F := Ideal) (iblk m c 1 t) (iblk m c 5 t) (accAt m c t) (tacAt m c t) Y := hA
  rw [hA' h]
  refine (codesF_at (iblk m c 1 t) (tacAt m c t) (iblk m c 5 t) (accAt m c t) (fun i r => t_fin m c hM t h i r) Y r j).trans ?_
  rw [dxv_end m c t h r j]
  rw [← (hM.scales _ _ (amx_le (TB m c) (row (t.val / 18) (hq t) r))).2, ← am_eq m c hM t h]

theorem leaves9 (hM : (TB m c).Mod) (t : Fin cfg0.N) (h : t.val % 18 = 17) (X) (hL : (rdat m c).Leaves 9 t X) (r : Fin 512) :
    ((X : Vec Ideal S512x1 .f32) (ix2 r 0) : EReal) = Ideal.exp2 (Tabs.rexp (AMX (TB m c) (row (t.val / 18) (hq t) r))) := by
  obtain ⟨Y, -, hA⟩ := hL
  have hA' : t.val % 18 = 17 → X = scaleF (F := Ideal) (iblk m c 1 t) (iblk m c 5 t) (accAt m c t) (tacAt m c t) := hA
  rw [hA' h]
  refine (scaleF_at (iblk m c 1 t) (tacAt m c t) (iblk m c 5 t) (accAt m c t) r).trans ?_
  rw [← (hM.scales _ _ (amx_le (TB m c) (row (t.val / 18) (hq t) r))).1, ← am_eq m c hM t h]

theorem leaves10 (t : Fin cfg0.N) (h : t.val % 18 = 17) (X) (hL : (rdat m c).Leaves 10 t X) (r : Fin 512) (i : Fin 32) :
    ((X : Vec Ideal S512x32 .f32) (ix2 r i) : EReal) = (TB m c).t (row (t.val / 18) (hq t) r) i := by
  obtain ⟨Y, -, hA⟩ := hL
  have hA' : t.val % 18 = 17 → X = k0_pay9 (F := Ideal) (iblk m c 1 t) (tacAt m c t) := hA
  rw [hA' h]
  exact (pay9_at _ _ r i).trans (t_end m c t h i r)

/-! ## The arrays -/

section Arrays

variable {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))

include hL

theorem arr7 (hM : (TB m c).Mod) : ((rdat m c).withAfter after).arrAt 7 cfg0.N = fun j : S12288x7168.Idx => (TB m c).dx (j 0) (j 1) := by
  refine Pipeline.Dat.arrAt_eq_of_covers _ 7 _ (by decide +kernel) fun t hf y => ?_
  have h := flush_end 7 (by decide) t hf
  obtain ⟨r, o, rfl⟩ : ∃ (r : Fin 512) (o : Fin 7168), y = ix2 r o := ⟨y 0, y 1, eq_ix2 y⟩
  have := leaves7 m c hM t h _ (hL 7 t hf) r o
  blk_simp
  refine Eq.trans ?_ (this.trans ?_)
  · rfl
  · blk_point [idx t]

theorem arr8 (hM : (TB m c).Mod) : ((rdat m c).withAfter after).arrAt 8 cfg0.N = fun j : S12288x7168.Idx => clampq ((TB m c).dx (j 0) (j 1) * Ideal.exp2 (0 - Tabs.rexp (AMX (TB m c) (j 0)))) := by
  refine Pipeline.Dat.arrAt_eq_of_covers _ 8 _ (by decide +kernel) fun t hf y => ?_
  have h := flush_end 8 (by decide) t hf
  obtain ⟨r, o, rfl⟩ : ∃ (r : Fin 512) (o : Fin 7168), y = ix2 r o := ⟨y 0, y 1, eq_ix2 y⟩
  have := leaves8 m c hM t h _ (hL 8 t hf) r o
  blk_simp
  refine Eq.trans ?_ (this.trans ?_)
  · rfl
  · blk_point [idx t]

theorem arr9 (hM : (TB m c).Mod) : ((rdat m c).withAfter after).arrAt 9 cfg0.N = fun j : S12288x1.Idx => Ideal.exp2 (Tabs.rexp (AMX (TB m c) (j 0))) := by
  refine Pipeline.Dat.arrAt_eq_of_covers _ 9 _ (by decide +kernel) fun t hf y => ?_
  have h := flush_end 9 (by decide) t hf
  obtain ⟨r, o, rfl⟩ : ∃ (r : Fin 512) (o : Fin 1), y = ix2 r o := ⟨y 0, y 1, eq_ix2 y⟩
  obtain rfl : o = 0 := Subsingleton.elim _ _
  have := leaves9 m c hM t h _ (hL 9 t hf) r
  blk_simp
  refine Eq.trans ?_ (this.trans ?_)
  · rfl
  · blk_point [idx t]

theorem arr10 : ((rdat m c).withAfter after).arrAt 10 cfg0.N = fun j : S12288x32.Idx => (TB m c).t (j 0) (j 1) := by
  refine Pipeline.Dat.arrAt_eq_of_covers _ 10 _ (by decide +kernel) fun t hf y => ?_
  have h := flush_end 10 (by decide) t hf
  obtain ⟨r, o, rfl⟩ : ∃ (r : Fin 512) (o : Fin 32), y = ix2 r o := ⟨y 0, y 1, eq_ix2 y⟩
  have := leaves10 m c t h _ (hL 10 t hf) r o
  blk_simp
  refine Eq.trans ?_ (this.trans ?_)
  · rfl
  · blk_point [idx t]

theorem arr11 (hM : (TB m c).Mod) : ((rdat m c).withAfter after).arrAt 11 cfg0.N = fun j : S32x18432.Idx => (TB m c).db (j 0) (j 1) := by
  refine Pipeline.Dat.arrAt_eq_of_covers _ 11 _ (by decide +kernel) fun t hf y => ?_
  have h := (flush0_11 t).mp hf
  have h432 := ltN t
  obtain ⟨i, o, rfl⟩ : ∃ (i : Fin 32) (o : Fin 18432), y = ix2 i o := ⟨y 0, y 1, eq_ix2 y⟩
  have := db_end m c (fun x i => (hM.xa x i).mul (hM.s x).fin) t.val t.isLt (by omega) _ (hL 11 t hf) i o
  blk_simp
  refine Eq.trans ?_ (this.trans ?_)
  · rfl
  · have e : (∑ x : Fin 12288, xs m c x i * DY m c (ix2 x o)) * 2 = (TB m c).db i o := by
      rw [Tabs.db, two, mul_comm]
      rfl
    rw [e]
    blk_point [idx t]

end Arrays

end Cert.KernelIdeal.Hand

end
-- ==== Proof.Main.Ref.lean ====
/- What the main call's reference leaves in its five result arrays. -/
module

public import proofs.«01_k».proof.Proof.Main.Bounds
public import proofs.«01_k».proof.Proof.Gen.ReferenceIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals

namespace Cert.ReferenceIdeal.Value

open Cert.ReferenceIdeal Cert.ReferenceIdeal.Gen

/-- The tables of the operands. -/
abbrev tabs (dy : FVec Ideal S12288x18432 .fp8e5m2) (s : FVec Ideal S12288x1 .f32) (w : FVec Ideal S7168x18432 .fp8e4m3) (ws : FVec Ideal S1x18432 .f32)
    (a : FVec Ideal S7168x32 .bf16) (b : FVec Ideal S32x18432 .bf16) (xa : FVec Ideal S12288x32 .f32) : Tabs where
  dy r o := dy (ix2 r o)
  s r := s (ix2 r 0)
  w j o := w (ix2 j o)
  ws o := ws (ix2 0 o)
  la i j := a (ix2 j i)
  lb i o := b (ix2 i o)
  xa x i := xa (ix2 x i)

/-- The magnitude at the extended reals. -/
theorem abs_eq (x : EReal) : FloatOps.absf (F := Ideal) (φ := .f32) x = max x (-x) := rfl

section Payloads

variable (dy : FVec Ideal S12288x18432 .fp8e5m2) (s : FVec Ideal S12288x1 .f32) (w : FVec Ideal S7168x18432 .fp8e4m3) (ws : FVec Ideal S1x18432 .f32)
    (a : FVec Ideal S7168x32 .bf16) (b : FVec Ideal S32x18432 .bf16) (xa : FVec Ideal S12288x32 .f32)

theorem t_at (r : Fin 12288) (i : Fin 32) : (k0_pay8 (F := Ideal) s dy b (ix2 r i) : EReal) = (tabs dy s w ws a b xa).t r i := by
  unfold Tabs.t
  pointwise [k0_pay8, k0_pay7, k0_pay6]
  refine congrArg (· * (s (ix2 r 0) : EReal)) (Finset.sum_congr rfl fun o _ => ?_)
  exact mul_comm _ _

theorem dx_at (r : Fin 12288) (j : Fin 7168) : (k0_pay9 (F := Ideal) s a dy b w ws (ix2 r j) : EReal) = (tabs dy s w ws a b xa).dx r j := by
  unfold Tabs.dx Tabs.t
  pointwise [k0_pay9, k0_pay8, k0_pay7, k0_pay6]
  refine congrArg₂ (· + ·) (congrArg (· * (s (ix2 r 0) : EReal)) (Finset.sum_congr rfl fun o _ => ?_))
    (congrArg (Ideal.ofBits .f32 1073741824#32 * ·) (Finset.sum_congr rfl fun i _ =>
      congrArg (· * (a (ix2 j i) : EReal)) (congrArg (· * (s (ix2 r 0) : EReal)) (Finset.sum_congr rfl fun o _ => ?_))))
  · rw [mul_assoc, mul_comm (w _)]
  · exact mul_comm _ _

theorem db_at (i : Fin 32) (o : Fin 18432) : (k0_pay5 (F := Ideal) (k0_pay6 s) xa dy (ix2 i o) : EReal) = (tabs dy s w ws a b xa).db i o := by
  unfold Tabs.db
  pointwise [k0_pay5, k0_pay6]

/-- The row's largest magnitude, by what it is below. -/
theorem amax_le (r : Fin 12288) (z : EReal) : (k0_pay10 (F := Ideal) s a dy b w ws (ix2 r 0) : EReal) ≤ z
    ↔ 0 ≤ z ∧ ∀ j, max ((tabs dy s w ws a b xa).dx r j) (-(tabs dy s w ws a b xa).dx r j) ≤ z := by
  have hbot : Ideal.ofBits .f32 4286578688#32 = ⊥ := by simp [Ideal.ofBits, Ideal.ieee]
  have e : (k0_pay10 (F := Ideal) s a dy b w ws (ix2 r 0) : EReal)
      = Finset.fold max (Ideal.ofBits .f32 4286578688#32) (fun j : Fin 7168 => max ((tabs dy s w ws a b xa).dx r j) (-(tabs dy s w ws a b xa).dx r j)) Finset.univ := by
    have hx : (fun j : Fin 7168 => max ((tabs dy s w ws a b xa).dx r j) (-(tabs dy s w ws a b xa).dx r j))
        = fun j : Fin 7168 => FloatOps.absf (F := Ideal) (φ := .f32) (k0_pay9 (F := Ideal) s a dy b w ws (ix2 r j)) := by
      funext j
      rw [dx_at dy s w ws a b xa r j]
      exact (abs_eq _).symm
    rw [hx]
    unfold k0_pay10
    generalize k0_pay9 (F := Ideal) s a dy b w ws = D
    pointwise
  rw [e, Finset.fold_max_le, hbot]
  constructor
  · rintro ⟨-, h⟩
    have hj : ∀ j, max ((tabs dy s w ws a b xa).dx r j) (-(tabs dy s w ws a b xa).dx r j) ≤ z := fun j => h j (Finset.mem_univ _)
    refine ⟨le_trans ?_ (hj 0), hj⟩
    rcases le_total 0 ((tabs dy s w ws a b xa).dx r 0) with h0 | h0
    · exact le_max_of_le_left h0
    · exact le_max_of_le_right (by have := EReal.neg_le_neg_iff.mpr h0; rwa [neg_zero] at this)
  · rintro ⟨-, h⟩
    exact ⟨bot_le, fun j _ => h j⟩

theorem scale_at (A E Z : FVec Ideal S12288x1 .f32) (r : Fin 12288) (hZ : (Z (ix2 r 0) : EReal) = 0)
    (hE : (E (ix2 r 0) : EReal) = Ideal.liftRound Int.floor (Ideal.div (Ideal.log ((A (ix2 r 0) : EReal) * Ideal.ofBits .f32 932333861#32)) (Ideal.log (Ideal.ofBits .f32 1073741824#32))) + 1) :
    (k0_pay2 A E Z (ix2 r 0) : EReal) = Ideal.exp2 (Tabs.rexp (A (ix2 r 0))) := by
  unfold Tabs.rexp
  pointwise [k0_pay2, k0_pay1]
  rw [hZ, hE]
  rfl

theorem codes_at (D : FVec Ideal S12288x7168 .f32) (A E Z : FVec Ideal S12288x1 .f32) (r : Fin 12288) (j : Fin 7168) (hZ : (Z (ix2 r 0) : EReal) = 0)
    (hE : (E (ix2 r 0) : EReal) = Ideal.liftRound Int.floor (Ideal.div (Ideal.log ((A (ix2 r 0) : EReal) * Ideal.ofBits .f32 932333861#32)) (Ideal.log (Ideal.ofBits .f32 1073741824#32))) + 1) :
    (k0_pay3 D A E Z (ix2 r j) : EReal) = min (Ideal.ofBits .f32 1197473792#32) (max (Ideal.ofBits .f32 3344957440#32) (D (ix2 r j) * Ideal.exp2 (0 - Tabs.rexp (A (ix2 r 0))))) := by
  unfold Tabs.rexp
  pointwise [k0_pay3, k0_pay1]
  rw [hZ, hE]
  rfl

/-- The exponent's chain, entry by entry. -/
theorem expG (A : FVec Ideal S12288x1 .f32) (i : S12288x1.Idx) :
    (addf (floor (divf (log (mulf A (broadcast S12288x1 (Scalar.ofBits (F := Ideal) .f32 0x37924925#32)))) (log (broadcast S12288x1 (Scalar.ofBits (F := Ideal) .f32 0x40000000#32)))))
      (broadcast S12288x1 (Scalar.ofBits (F := Ideal) .f32 0x3F800000#32)) i : EReal)
    = Ideal.liftRound Int.floor (Ideal.div (Ideal.log ((A i : EReal) * Ideal.ofBits .f32 932333861#32)) (Ideal.log (Ideal.ofBits .f32 1073741824#32))) + Ideal.ofBits .f32 0x3F800000#32 := by
  rfl

theorem exp_at (r : Fin 12288) : (k0_pay11 (F := Ideal) s a dy b w ws (ix2 r 0) : EReal)
    = Ideal.liftRound Int.floor (Ideal.div (Ideal.log ((k0_pay10 (F := Ideal) s a dy b w ws (ix2 r 0) : EReal) * Ideal.ofBits .f32 932333861#32)) (Ideal.log (Ideal.ofBits .f32 1073741824#32))) + 1 := by
  unfold k0_pay11
  generalize k0_pay10 (F := Ideal) s a dy b w ws = A
  refine (expG A (ix2 r 0)).trans ?_
  rw [Ideal.ofBits_one_f32]

theorem zero_at (r : Fin 12288) : (k0_pay12 (F := Ideal) (ix2 r 0) : EReal) = 0 := by
  pointwise [k0_pay12]

end Payloads

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

section Blocks

variable (c : Dev nD)

theorem iblk0 : iblk m c 0 t0_0 = V m c main_v2 := by funext j; blk_point [iblk, idx t0_0]
theorem iblk1 : iblk m c 1 t0_0 = V m c main_v3 := by funext j; blk_point [iblk, idx t0_0]
theorem iblk2 : iblk m c 2 t0_0 = V m c main_v1 := by funext j; blk_point [iblk, idx t0_0]
theorem iblk3 : iblk m c 3 t0_0 = V m c main_v4 := by funext j; blk_point [iblk, idx t0_0]
theorem iblk4 : iblk m c 4 t0_0 = V m c main_arg4 := by funext j; blk_point [iblk, idx t0_0]
theorem iblk5 : iblk m c 5 t0_0 = V m c main_arg5 := by funext j; blk_point [iblk, idx t0_0]
theorem iblk6 : iblk m c 6 t0_0 = V m c main_arg6 := by funext j; blk_point [iblk, idx t0_0]

/-- The tables of the call's operands. -/
abbrev TB : Tabs := tabs (V m c main_v2) (V m c main_v3) (V m c main_v1) (V m c main_v4) (V m c main_arg4) (V m c main_arg5) (V m c main_arg6)

/-- A row's largest magnitude, as the reference takes it. -/
abbrev AM (r : Fin 12288) : EReal := k0_pay10 (F := Ideal) (V m c main_v3) (V m c main_arg4) (V m c main_v2) (V m c main_arg5) (V m c main_v1) (V m c main_v4) (ix2 r 0)

theorem pay13_eq (x0 : Vec Ideal S12288x18432 .fp8e5m2) (x1 : Vec Ideal S12288x1 .f32) (x2 : Vec Ideal S7168x18432 .fp8e4m3) (x3 : Vec Ideal S1x18432 .f32)
    (x4 : Vec Ideal S7168x32 .bf16) (x5 : Vec Ideal S32x18432 .bf16) (x6 : Vec Ideal S12288x32 .f32) :
    k0_pay13 x0 x1 x2 x3 x4 x5 x6 = k0_pay9 x1 x4 x0 x5 x2 x3 := by
  unfold k0_pay13; frame_out

theorem pay14_eq (x0 : Vec Ideal S12288x18432 .fp8e5m2) (x1 : Vec Ideal S12288x1 .f32) (x2 : Vec Ideal S7168x18432 .fp8e4m3) (x3 : Vec Ideal S1x18432 .f32)
    (x4 : Vec Ideal S7168x32 .bf16) (x5 : Vec Ideal S32x18432 .bf16) (x6 : Vec Ideal S12288x32 .f32) :
    k0_pay14 x0 x1 x2 x3 x4 x5 x6 = k0_pay10 x1 x4 x0 x5 x2 x3 := by
  unfold k0_pay14; frame_out

theorem pay15_eq (x0 : Vec Ideal S12288x18432 .fp8e5m2) (x1 : Vec Ideal S12288x1 .f32) (x2 : Vec Ideal S7168x18432 .fp8e4m3) (x3 : Vec Ideal S1x18432 .f32)
    (x4 : Vec Ideal S7168x32 .bf16) (x5 : Vec Ideal S32x18432 .bf16) (x6 : Vec Ideal S12288x32 .f32) :
    k0_pay15 x0 x1 x2 x3 x4 x5 x6 = k0_pay11 x1 x4 x0 x5 x2 x3 := by
  unfold k0_pay15; frame_out

theorem pay4_at (X : FVec Ideal S12288x7168 .f32) (j) : (k0_pay4 (F := Ideal) X j : EReal) = X j := by
  pointwise [k0_pay4]

theorem final7 : (dats m 0 c).arrAt 7 (cfgs 0).N = fun j : S12288x7168.Idx => (TB m c).dx (j 0) (j 1) := by
  refine (dats m 0 c).arrAt_eq_of_after_last 7 t0_0 (by decide +kernel) _ fun j => ?_
  blk_simp; rw [after0_7, iblk0, iblk1, iblk2, iblk3, iblk4, iblk5, iblk6]; frame_out
  obtain ⟨r, o, rfl⟩ : ∃ r o, j = ix2 r o := ⟨j 0, j 1, eq_ix2 j⟩
  refine (pay4_at _ _).trans ?_
  rw [pay13_eq]
  exact dx_at _ _ _ _ _ _ (V m c main_arg6) r o

theorem final8 : (dats m 0 c).arrAt 8 (cfgs 0).N = fun j : S12288x7168.Idx =>
    min (Ideal.ofBits .f32 1197473792#32) (max (Ideal.ofBits .f32 3344957440#32) ((TB m c).dx (j 0) (j 1) * Ideal.exp2 (0 - Tabs.rexp (AM m c (j 0))))) := by
  refine (dats m 0 c).arrAt_eq_of_after_last 8 t0_0 (by decide +kernel) _ fun j => ?_
  blk_simp; rw [after0_8, iblk0, iblk1, iblk2, iblk3, iblk4, iblk5, iblk6]; frame_out
  obtain ⟨r, o, rfl⟩ : ∃ r o, j = ix2 r o := ⟨j 0, j 1, eq_ix2 j⟩
  rw [pay13_eq, pay14_eq, pay15_eq]
  refine (codes_at _ _ _ _ r o (zero_at r) (exp_at _ _ _ _ _ _ r)).trans ?_
  rw [dx_at (V m c main_v2) (V m c main_v3) (V m c main_v1) (V m c main_v4) (V m c main_arg4) (V m c main_arg5) (V m c main_arg6) r o]
  rfl

theorem final9 : (dats m 0 c).arrAt 9 (cfgs 0).N = fun j : S12288x1.Idx => Ideal.exp2 (Tabs.rexp (AM m c (j 0))) := by
  refine (dats m 0 c).arrAt_eq_of_after_last 9 t0_0 (by decide +kernel) _ fun j => ?_
  blk_simp; rw [after0_9, iblk0, iblk1, iblk2, iblk3, iblk4, iblk5, iblk6]; frame_out
  obtain ⟨r, o, rfl⟩ : ∃ (r : Fin 12288) (o : Fin 1), j = ix2 r o := ⟨j 0, j 1, eq_ix2 j⟩
  obtain rfl : o = 0 := Subsingleton.elim _ _
  rw [pay14_eq, pay15_eq]
  exact scale_at _ _ _ r (zero_at r) (exp_at _ _ _ _ _ _ r)

theorem final10 : (dats m 0 c).arrAt 10 (cfgs 0).N = fun j : S12288x32.Idx => (TB m c).t (j 0) (j 1) := by
  refine (dats m 0 c).arrAt_eq_of_after_last 10 t0_0 (by decide +kernel) _ fun j => ?_
  blk_simp; rw [after0_10, iblk0, iblk1, iblk2, iblk3, iblk4, iblk5, iblk6]; frame_out
  obtain ⟨r, o, rfl⟩ : ∃ r o, j = ix2 r o := ⟨j 0, j 1, eq_ix2 j⟩
  exact t_at _ _ _ _ _ _ _ r o

theorem final11 : (dats m 0 c).arrAt 11 (cfgs 0).N = fun j : S32x18432.Idx => (TB m c).db (j 0) (j 1) := by
  refine (dats m 0 c).arrAt_eq_of_after_last 11 t0_0 (by decide +kernel) _ fun j => ?_
  blk_simp; rw [after0_11, iblk0, iblk1, iblk2, iblk3, iblk4, iblk5, iblk6]; frame_out
  obtain ⟨r, o, rfl⟩ : ∃ r o, j = ix2 r o := ⟨j 0, j 1, eq_ix2 j⟩
  exact db_at _ _ _ _ _ _ _ r o

end Blocks

end Cert.ReferenceIdeal.Value

end
-- ==== Proof.Main.Read.lean ====
/- What the main call's operands are in terms of the program's arguments, and what the precondition says of them. -/
module

public import proofs.«01_k».proof.Defs
public import proofs.«01_k».proof.Proof.Main.Final
public import proofs.«01_k».proof.Proof.Main.Ref
public import proofs.«01_k».proof.Proof.Gen.Pre_moderate
public import Idealize.ShloMosaic.Lib.Claim

@[expose] public section

set_option maxRecDepth 16384

noncomputable section

open Idealize.ShloMosaic Idealize.ShloMosaic.TcCoe Idealize.SL.Sem
open Cert.Reals

namespace Cert.Proof

/-- A comparison for difference that holds. -/
theorem ne_of_cmpi {n : ℕ} (a b : BitVec n) (h : IntOp.cmpi .ne a b = 1#1) : a ≠ b := by
  intro e
  subst e
  revert h
  simp [IntOp.cmpi]

/-- The precondition, read: no byte is an infinity or a NaN, the scales, `w0_scale` and the two LoRA factors are at most `2 ^ 30` in
    magnitude, and `xa` is finite. -/
theorem moderate_read (A0 : IVec Cert.Pre_moderate.S3x4096x18432 8) (A1 : FVec Ideal Cert.Pre_moderate.S3x4096 .f32)
    (A2 : IVec Cert.Pre_moderate.S7168x18432 8) (A3 : FVec Ideal Cert.Pre_moderate.S18432 .f32)
    (A4 : FVec Ideal Cert.Pre_moderate.S7168x32 .bf16) (A5 : FVec Ideal Cert.Pre_moderate.S32x18432 .bf16)
    (A6 : FVec Ideal Cert.Pre_moderate.S12288x32 .f32)
    (h : letI := Cert.Pre_moderate.Gen.facts; Cert.Pre_moderate.fn (F := Ideal) A0 A1 A2 A3 A4 A5 A6 = fun _ => 1#1) :
    ((∀ i, ((A0 i).setWidth 32 &&& 124#32) ≠ 124#32) ∧ (∀ i, ((A2 i).setWidth 32 &&& 127#32) ≠ 127#32))
      ∧ (∀ i, Bd (2 ^ 30) (A1 i)) ∧ (∀ i, Bd (2 ^ 30) (A3 i)) ∧ (∀ i, Bd (2 ^ 30) (A4 i)) ∧ (∀ i, Bd (2 ^ 30) (A5 i)) ∧ ∀ i, Fin' (A6 i) := by
  have h0 := congrFun h (fun a => a.elim0)
  obtain ⟨h34, h38⟩ := IntOp.andi_eq_one.mp h0
  obtain ⟨h33, h30⟩ := IntOp.andi_eq_one.mp h34
  obtain ⟨h32, h25⟩ := IntOp.andi_eq_one.mp h33
  obtain ⟨h31, h20⟩ := IntOp.andi_eq_one.mp h32
  obtain ⟨h12, h16⟩ := IntOp.andi_eq_one.mp h31
  obtain ⟨h5, h11⟩ := IntOp.andi_eq_one.mp h12
  refine ⟨⟨fun i => ?_, fun i => ?_⟩, fun i => ?_, fun i => ?_, fun i => ?_, fun i => ?_, fun i => ?_⟩
  · exact ne_of_cmpi _ _ (Host.reduce_andi_all _ _ _ _ _ h5 i)
  · exact ne_of_cmpi _ _ (Host.reduce_andi_all _ _ _ _ _ h11 i)
  · exact bd_of_ole _ (Host.reduce_andi_all _ _ _ _ _ h16 i)
  · exact bd_of_ole _ (Host.reduce_andi_all _ _ _ _ _ h20 i)
  · exact bd_of_ole _ (Host.reduce_andi_all _ _ _ _ _ h25 i)
  · exact bd_of_ole _ (Host.reduce_andi_all _ _ _ _ _ h30 i)
  · exact fin_of_olt _ (Host.reduce_andi_all _ _ _ _ _ h38 i)

/-! ## The host's lines before the call -/

section KernelSide

open Cert.KernelIdeal Cert.KernelIdeal.Gen

variable (m : (ℓ : Loc nD τ sig) → Buf (Elt Ideal) ℓ) (c : Dev nD)

theorem call_v1 : V m c main_v1 = bitcastToFloat (F := Ideal) .fp8e4m3 (m ((c.tc : Thread nD τ).loc main_arg2)) := by
  show StableHlo.after hostOps0 _ _ = _
  open StableHlo in after_results

theorem call_v2 : V m c main_v2 = shapeCast S12288x18432 (bitcastToFloat (F := Ideal) .fp8e5m2 (m ((c.tc : Thread nD τ).loc main_arg0))) shapeCasts_S3x4096x18432_S12288x18432 := by
  show StableHlo.after hostOps0 _ _ = _
  open StableHlo in after_results
  rfl

theorem call_v3 : V m c main_v3 = shapeCast S12288x1 (m ((c.tc : Thread nD τ).loc main_arg1)) shapeCasts_S3x4096_S12288x1 := by
  show StableHlo.after hostOps0 _ _ = _
  open StableHlo in after_results
  rfl

theorem call_v4 : V m c main_v4 = transpose S32x7168 [1, 0] (m ((c.tc : Thread nD τ).loc main_arg4)) transposes_S7168x32_S32x7168_1_0 := by
  show StableHlo.after hostOps0 _ _ = _
  open StableHlo in after_results

theorem call_v5 : V m c main_v5 = shapeCast S1x18432 (m ((c.tc : Thread nD τ).loc main_arg3)) shapeCasts_S18432_S1x18432 := by
  show StableHlo.after hostOps0 _ _ = _
  open StableHlo in after_results
  rfl

/-- The transpose, entry by entry. -/
theorem la_at (x : FVec Ideal S7168x32 .bf16) (i : Fin 32) (j : Fin 7168) :
    transpose S32x7168 [1, 0] x transposes_S7168x32_S32x7168_1_0 (ix2 i j) = x (ix2 j i) := by
  pointwise

/-- The precondition, of the tables of the operands. -/
theorem mod_of_pre (hpre : letI := Cert.Pre_moderate.Gen.facts; Cert.Pre_KernelIdeal_moderate m) : (Cert.KernelIdeal.Hand.TB m c).Mod := by
  obtain ⟨⟨h0, h2⟩, h1, h3, h4, h5, h6⟩ := moderate_read _ _ _ _ _ _ _ (hpre c)
  refine ⟨fun r o => ?_, fun r => ?_, fun j o => ?_, fun o => ?_, fun i j => ?_, fun i o => ?_, fun x i => ?_⟩
  · show Bd _ (V m c Cert.KernelIdeal.main_v2 (ix2 r o))
    rw [call_v2]
    exact bd_e5m2 _ (h0 _)
  · show Bd _ (V m c Cert.KernelIdeal.main_v3 (ix2 r 0))
    rw [call_v3]
    exact h1 _
  · show Bd _ (V m c Cert.KernelIdeal.main_v1 (ix2 j o))
    rw [call_v1]
    exact bd_e4m3 _ (h2 _)
  · show Bd _ (V m c Cert.KernelIdeal.main_v5 (ix2 0 o))
    rw [call_v5]
    exact h3 _
  · show Bd _ (V m c Cert.KernelIdeal.main_v4 (ix2 i j))
    rw [call_v4]
    exact h4 _
  · show Bd _ (V m c Cert.KernelIdeal.main_arg5 (ix2 i o))
    rw [V_main_arg5]
    exact h5 _
  · show Fin' (V m c Cert.KernelIdeal.main_arg6 (ix2 x i))
    rw [V_main_arg6]
    exact h6 _

end KernelSide

section ReferenceSide

open Cert.ReferenceIdeal Cert.ReferenceIdeal.Gen

variable (m : (ℓ : Loc nD τ sig) → Buf (Elt Ideal) ℓ) (c : Dev nD)

theorem ref_v1 : V m c main_v1 = bitcastToFloat (F := Ideal) .fp8e4m3 (m ((c.tc : Thread nD τ).loc main_arg2)) := by
  show StableHlo.after hostOps0 _ _ = _
  open StableHlo in after_results

theorem ref_v2 : V m c main_v2 = shapeCast S12288x18432 (bitcastToFloat (F := Ideal) .fp8e5m2 (m ((c.tc : Thread nD τ).loc main_arg0))) shapeCasts_S3x4096x18432_S12288x18432 := by
  show StableHlo.after hostOps0 _ _ = _
  open StableHlo in after_results
  rfl

theorem ref_v3 : V m c main_v3 = shapeCast S12288x1 (m ((c.tc : Thread nD τ).loc main_arg1)) shapeCasts_S3x4096_S12288x1 := by
  show StableHlo.after hostOps0 _ _ = _
  open StableHlo in after_results
  rfl

theorem ref_v4 : V m c main_v4 = shapeCast S1x18432 (m ((c.tc : Thread nD τ).loc main_arg3)) shapeCasts_S18432_S1x18432 := by
  show StableHlo.after hostOps0 _ _ = _
  open StableHlo in after_results
  rfl

/-- A row's largest magnitude does not depend on how it is taken. -/
theorem ref_am (r : Fin 12288) : Cert.ReferenceIdeal.Value.AM m c r = Cert.KernelIdeal.Hand.AMX (Cert.ReferenceIdeal.Value.TB m c) r :=
  eq_of_forall_ge_iff fun z => (Cert.ReferenceIdeal.Value.amax_le _ _ _ _ _ _ (V m c main_arg6) r z).trans (Cert.KernelIdeal.Hand.amx_le _ r z).symm

end ReferenceSide

/-- From equal arguments the two programs' tables are equal. -/
theorem tables_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.TB m' c = Cert.KernelIdeal.Hand.TB m c := by
  have la : ∀ i j, Cert.KernelIdeal.Gen.V m c Cert.KernelIdeal.main_v4 (ix2 i j) = m ((c.tc : Thread Cert.KernelIdeal.nD Cert.KernelIdeal.τ).loc Cert.KernelIdeal.main_arg4) (ix2 j i) := by
    intro i j
    rw [call_v4]
    exact la_at _ i j
  show Cert.ReferenceIdeal.Value.tabs _ _ _ _ _ _ _ = _
  rw [ref_v1, ref_v2, ref_v3, ref_v4, Cert.ReferenceIdeal.Gen.V_main_arg4, Cert.ReferenceIdeal.Gen.V_main_arg5, Cert.ReferenceIdeal.Gen.V_main_arg6,
    h0, h1, h2, h3, h4, h5, h6]
  unfold Cert.KernelIdeal.Hand.TB
  rw [Tabs.mk.injEq]
  refine ⟨?_, ?_, ?_, ?_, ?_, ?_, ?_⟩
  · funext r o
    rw [show Cert.KernelIdeal.Hand.DY m c = _ from call_v2 m c]
  · funext r
    rw [show Cert.KernelIdeal.Hand.SC m c = _ from call_v3 m c]
  · funext j o
    rw [show Cert.KernelIdeal.Hand.W0 m c = _ from call_v1 m c]
  · funext o
    rw [show Cert.KernelIdeal.Hand.WS m c = _ from call_v5 m c]
  · funext i j
    exact (la i j).symm
  · funext i o
    rw [show Cert.KernelIdeal.Hand.LB m c = _ from Cert.KernelIdeal.Gen.V_main_arg5 m c]
  · funext x i
    rw [show Cert.KernelIdeal.Hand.XA m c = _ from Cert.KernelIdeal.Gen.V_main_arg6 m c]

end Cert.Proof

end
-- ==== Proof.Main.Claim.lean ====
/- The main call and its reference end with the same results. -/
module

public import proofs.«01_k».proof.Defs
public import proofs.«01_k».proof.Proof.Main.Read
public import Idealize.ShloMosaic.Lib.Claim

@[expose] public section

set_option maxRecDepth 16384

noncomputable section

open Idealize.ShloMosaic Idealize.ShloMosaic.TcCoe Idealize.SL.Sem
open Cert.Reals

namespace Cert.Proof

section KernelSide

open Cert.KernelIdeal Cert.KernelIdeal.Gen Cert.KernelIdeal.Hand

variable (m : (ℓ : Loc nD τ sig) → Buf (Elt Ideal) ℓ) (ρ : Dev nD → PrngReg)

/-- The main call's five results, from operands that satisfy the precondition. -/
theorem main_values (hM : ∀ c, (TB m c).Mod) : θ_run (defs (F := Ideal)) (onTc (τ := τ) (main (F := Ideal))) ⟨m, fun _ => 0, ρ⟩ (fun r => ∀ c : Dev nD,
    r.2.mem ((c.tc : Thread nD τ).loc main_v6_0) = (fun j : S12288x7168.Idx => (TB m c).dx (j 0) (j 1))
      ∧ r.2.mem ((c.tc : Thread nD τ).loc main_v6_1) = (fun j : S12288x7168.Idx => clampq ((TB m c).dx (j 0) (j 1) * Ideal.exp2 (0 - Tabs.rexp (AMX (TB m c) (j 0)))))
      ∧ r.2.mem ((c.tc : Thread nD τ).loc main_v6_2) = (fun j : S12288x1.Idx => Ideal.exp2 (Tabs.rexp (AMX (TB m c) (j 0))))
      ∧ r.2.mem ((c.tc : Thread nD τ).loc main_v6_3) = (fun j : S12288x32.Idx => (TB m c).t (j 0) (j 1))
      ∧ r.2.mem ((c.tc : Thread nD τ).loc main_v6_4) = (fun j : S32x18432.Idx => (TB m c).db (j 0) (j 1))) := by
  refine (θ_run _ _ _).mono (fun r h c => ?_) (run_main_quiescent m ρ)
  obtain ⟨after, hL, hA⟩ := Pipeline.RDat.FramePost.exists_exact h.1 c
  exact ⟨(hA 7).trans (arr7 m c hL (hM c)), (hA 8).trans (arr8 m c hL (hM c)), (hA 9).trans (arr9 m c hL (hM c)),
    (hA 10).trans (arr10 m c hL), (hA 11).trans (arr11 m c hL (hM c))⟩

/-- The argument arrays end unchanged. -/
theorem main_unchanged : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h => h.1) (Cert.KernelIdeal.Hand.frame m ρ)

end KernelSide

section ReferenceSide

open Cert.ReferenceIdeal Cert.ReferenceIdeal.Gen Cert.ReferenceIdeal.Value

variable (m : (ℓ : Loc nD τ sig) → Buf (Elt Ideal) ℓ) (c : Dev nD)

/-- The reference's codes and scales, with the row's largest magnitude stated as the kernel's side states it. -/
theorem ref_codes : (dats m 0 c).arrAt 8 (cfgs 0).N = fun j : S12288x7168.Idx =>
    clampq ((TB m c).dx (j 0) (j 1) * Ideal.exp2 (0 - Tabs.rexp (Cert.KernelIdeal.Hand.AMX (TB m c) (j 0)))) :=
  (final8 m c).trans (funext fun j => congrArg (fun a => clampq ((TB m c).dx (j 0) (j 1) * Ideal.exp2 (0 - Tabs.rexp a))) (ref_am m c (j 0)))

theorem ref_scale : (dats m 0 c).arrAt 9 (cfgs 0).N = fun j : S12288x1.Idx => Ideal.exp2 (Tabs.rexp (Cert.KernelIdeal.Hand.AMX (TB m c) (j 0))) :=
  (final9 m c).trans (funext fun j => congrArg (fun a => Ideal.exp2 (Tabs.rexp a)) (ref_am m c (j 0)))

/-- The reference's five results, in terms of any tables that are its own. -/
theorem ref_values (ρ : Dev nD → PrngReg) (T : Dev nD → Tabs) (hT : ∀ c, TB m c = T c) :
    θ_run (defs (F := Ideal)) (onTc (τ := τ) (main (F := Ideal))) ⟨m, fun _ => 0, ρ⟩ (fun r => ∀ c : Dev nD,
    r.2.mem ((c.tc : Thread nD τ).loc main_v5_0) = (fun j : S12288x7168.Idx => (T c).dx (j 0) (j 1))
      ∧ r.2.mem ((c.tc : Thread nD τ).loc main_v5_1) = (fun j : S12288x7168.Idx => clampq ((T c).dx (j 0) (j 1) * Ideal.exp2 (0 - Tabs.rexp (Cert.KernelIdeal.Hand.AMX (T c) (j 0)))))
      ∧ r.2.mem ((c.tc : Thread nD τ).loc main_v5_2) = (fun j : S12288x1.Idx => Ideal.exp2 (Tabs.rexp (Cert.KernelIdeal.Hand.AMX (T c) (j 0))))
      ∧ r.2.mem ((c.tc : Thread nD τ).loc main_v5_3) = (fun j : S12288x32.Idx => (T c).t (j 0) (j 1))
      ∧ r.2.mem ((c.tc : Thread nD τ).loc main_v5_4) = (fun j : S32x18432.Idx => (T c).db (j 0) (j 1))) := by
  refine (θ_run _ _ _).mono (fun r h c => ?_) (run_main m ρ)
  rw [← hT c]
  exact ⟨((h c).1 7).trans (final7 m c), ((h c).1 8).trans (ref_codes m c), ((h c).1 9).trans (ref_scale m c),
    ((h c).1 10).trans (final10 m c), ((h c).1 11).trans (final11 m c)⟩

end ReferenceSide

/-- Both programs run, and from equal arguments the results are equal. -/
theorem main_algebraic : Cert.algebraic_KernelIdeal_ReferenceIdeal_pre_moderate (hKernelIdeal := Cert.KernelIdeal.Gen.facts)
    (hReferenceIdeal := Cert.ReferenceIdeal.Gen.facts) (hPre_moderate := Cert.Pre_moderate.Gen.facts) := by
  intro m g m' g' hpre hagree
  have hT : ∀ c : Dev Cert.KernelIdeal.nD, Cert.ReferenceIdeal.Value.TB m' c = Cert.KernelIdeal.Hand.TB m c := fun c => by
    obtain ⟨h0, h1, h2, h3, h4, h5, h6⟩ := hagree c
    exact tables_eq m m' c h0 h1 h2 h3 h4 h5 h6
  exact ⟨fun c => fun j : Cert.KernelIdeal.S12288x7168.Idx => (Cert.KernelIdeal.Hand.TB m c).dx (j 0) (j 1),
    fun c => fun j : Cert.KernelIdeal.S12288x7168.Idx => clampq ((Cert.KernelIdeal.Hand.TB m c).dx (j 0) (j 1) * Ideal.exp2 (0 - Tabs.rexp (Cert.KernelIdeal.Hand.AMX (Cert.KernelIdeal.Hand.TB m c) (j 0)))),
    fun c => fun j : Cert.KernelIdeal.S12288x1.Idx => Ideal.exp2 (Tabs.rexp (Cert.KernelIdeal.Hand.AMX (Cert.KernelIdeal.Hand.TB m c) (j 0))),
    fun c => fun j : Cert.KernelIdeal.S12288x32.Idx => (Cert.KernelIdeal.Hand.TB m c).t (j 0) (j 1),
    fun c => fun j : Cert.KernelIdeal.S32x18432.Idx => (Cert.KernelIdeal.Hand.TB m c).db (j 0) (j 1),
    θ_run_mono (θ_run_and (main_values m g fun c => mod_of_pre m c hpre) (main_unchanged m g)) fun r h c =>
      ⟨(h.1 c).1, (h.1 c).2.1, (h.1 c).2.2.1, (h.1 c).2.2.2.1, (h.1 c).2.2.2.2, h.2 c⟩,
    θ_run_mono (θ_run_and (ref_values m' g' (fun c => Cert.KernelIdeal.Hand.TB m c) hT) (Cert.ReferenceIdeal.Gen.unchanged m' g')) fun r h c =>
      ⟨(h.1 c).1, (h.1 c).2.1, (h.1 c).2.2.1, (h.1 c).2.2.2.1, (h.1 c).2.2.2.2, h.2 c⟩⟩

end Cert.Proof

end
-- ==== Proof.MainK.Conds.lean ====
/- The branch conditions of the main call's body, in closed form over the grid points, and the names of its operands. -/
module

public import proofs.«01_k».proof.Proof.Gen.Kernel.Frame
public import proofs.«01_k».proof.Proof.Gen.Kernel.Loops
public import Idealize.ShloMosaic.Lib.Pipeline.ValueKit
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates . -/
abbrev cond0_0 (i : grid0.Coords) : Prop := (Scalar.cmpi .ne (Scalar.extui (Scalar.cmpi .eq (BitVec.ofNat 32 (i 1).val) 0#32)) 0#32) = 1#1
/-- It holds at the points ≡ 0 (mod 18) — by arithmetic of the point. -/
theorem hcond0_0 : ∀ t : Fin cfg0.N, cond0_0 (grid0.coords t) ↔ t.val % 18 = 0 :=
  (fun t => by
    have ht : t.val < 432 := Nat.lt_of_lt_of_eq t.isLt N_0
    have e0 : (grid0.coords t 0).val = t.val / 18 % 24 := Pipeline.Grid.coords_val t 0 (by decide) rfl
    have e1 : (grid0.coords t 1).val = t.val / 1 % 18 := Pipeline.Grid.coords_val t 1 (by decide) rfl
    simp only [cond0_0, e0, e1]
    word_cmp
   : ∀ t : Fin grid0.N, cond0_0 (grid0.coords t) ↔ t.val % 18 = 0)

/-- The condition of the body's `scf.if` 1 (`k0_h2`), from the grid coordinates . -/
abbrev cond0_1 (i : grid0.Coords) : Prop := k0_cond2 i = 1#1
/-- It holds at the points before point 18 — by arithmetic of the point. -/
theorem hcond0_1 : ∀ t : Fin cfg0.N, cond0_1 (grid0.coords t) ↔ t.val < 18 :=
  (fun t => by
    have ht : t.val < 432 := Nat.lt_of_lt_of_eq t.isLt N_0
    have e0 : (grid0.coords t 0).val = t.val / 18 % 24 := Pipeline.Grid.coords_val t 0 (by decide) rfl
    have e1 : (grid0.coords t 1).val = t.val / 1 % 18 := Pipeline.Grid.coords_val t 1 (by decide) rfl
    simp only [cond0_1, k0_cond2, e0, e1]
    word_cmp
   : ∀ t : Fin grid0.N, cond0_1 (grid0.coords t) ↔ t.val < 18)

/-- The condition of the body's `scf.if` 2 (`k0_h3`), from the grid coordinates . -/
abbrev cond0_2 (i : grid0.Coords) : Prop := k0_cond3 i = 1#1
/-- It holds at the points from point 18 on — decided over the grid. -/
theorem hcond0_2 : ∀ t : Fin cfg0.N, cond0_2 (grid0.coords t) ↔ 18 ≤ t.val :=
  (by decide +kernel : ∀ t : Fin grid0.N, cond0_2 (grid0.coords t) ↔ 18 ≤ t.val)

/-- The condition of the body's `scf.if` 3 (`k0_h4`), from the grid coordinates . -/
abbrev cond0_3 (i : grid0.Coords) : Prop := k0_cond4 i = 1#1
/-- It holds at the points ≡ 17 (mod 18) — by arithmetic of the point. -/
theorem hcond0_3 : ∀ t : Fin cfg0.N, cond0_3 (grid0.coords t) ↔ t.val % 18 = 17 :=
  (fun t => by
    have ht : t.val < 432 := Nat.lt_of_lt_of_eq t.isLt N_0
    have e0 : (grid0.coords t 0).val = t.val / 18 % 24 := Pipeline.Grid.coords_val t 0 (by decide) rfl
    have e1 : (grid0.coords t 1).val = t.val / 1 % 18 := Pipeline.Grid.coords_val t 1 (by decide) rfl
    simp only [cond0_3, k0_cond4, e0, e1]
    word_cmp
   : ∀ t : Fin grid0.N, cond0_3 (grid0.coords t) ↔ t.val % 18 = 17)

/-! ## The operands -/

/-- Each window's current staging memref at point `t`, spelled as the pipeline passes it (`bodyAt0`), and its wholeness. -/
abbrev ms0_0 (t : Fin cfg0.N) : Memref sig .tc .vmem S512x1024 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x7168 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x7168 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x32 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x18432 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x7168 .f32 := Memref.whole cc0_scratch0
abbrev scM0_1 : Memref sig .tc .vmem S32x512 .f32 := Memref.whole cc0_scratch1
abbrev scM0_2 : Memref sig .tc .vmem S512x1024 .bf16 := Memref.whole cc0_scratch2
abbrev scM0_3 : Memref sig .tc .vmem S96x512 .bf16 := Memref.whole cc0_scratch3
/-- The scratch `arg14` the kernel carries between points, as a view: what it holds is stated through it. -/
abbrev VS0_0 : View sig .tc .vmem S512x7168 .f32 := scM0_0.view
/-- The scratch `arg15` the kernel carries between points, as a view: what it holds is stated through it. -/
abbrev VS0_1 : View sig .tc .vmem S32x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.MainK.State.lean ====
/- What one grid point of the main call leaves in each buffer, as functions of the vectors it finds there. -/
module

public import proofs.«01_k».proof.Proof.MainK.Conds
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two column loops of the last reduction step -/

theorem chunk_inb (k : Fin 14) : ∀ a, (![0, 512 * k.val] : Fin 2 → ℕ) a + S512x512.size a ≤ S512x7168.size a :=
  (by decide +kernel : ∀ k : Fin 14, ∀ a, (![0, 512 * k.val] : Fin 2 → ℕ) a + S512x512.size a ≤ S512x7168.size a) k

theorem chunkA_inb (k : Fin 14) : ∀ a, (![0, 512 * k.val] : Fin 2 → ℕ) a + S32x512.size a ≤ S32x7168.size a :=
  (by decide +kernel : ∀ k : Fin 14, ∀ a, (![0, 512 * k.val] : Fin 2 → ℕ) a + S32x512.size a ≤ S32x7168.size a) k

/-- Columns `512 k … 512 k + 511` of the adapter block. -/
def chunkA (x : Vec F S32x7168 .bf16) (k : Fin 14) : Vec F S32x512 .bf16 :=
  VecWindow.window x ![0, 512 * k.val] S32x512.size (chunkA_inb k)

/-- Columns `512 k … 512 k + 511` of the accumulator. -/
def chunk (x : Vec F S512x7168 .f32) (k : Fin 14) : Vec F S512x512 .f32 :=
  VecWindow.window x ![0, 512 * k.val] S512x512.size (chunk_inb k)

/-- The accumulator after the first `n` column chunks were finished (scaled and given the adapter's term). -/
def dxAcc (v54 : Vec F S512x1 .f32) (v56 : Vec F S32x512 .f32) (x7 : Vec F S32x7168 .bf16) (a : Vec F S512x7168 .f32) : ℕ → Vec F S512x7168 .f32
  | 0 => a
  | n + 1 => if h : n < 14 then
      VecWindow.put (dxAcc v54 v56 x7 a n) ![0, 512 * n] S512x512.size (k0_pay12 v54 v56 (chunkA x7 ⟨n, h⟩) (chunk (dxAcc v54 v56 x7 a n) ⟨n, h⟩))
    else dxAcc v54 v56 x7 a n

/-- The running row maxima of the finished chunks. -/
def amaxRec (v54 : Vec F S512x1 .f32) (v56 : Vec F S32x512 .f32) (x7 : Vec F S32x7168 .bf16) (a : Vec F S512x7168 .f32) : ℕ → FVec F S512x1 .f32
  | 0 => k0_pay10
  | n + 1 => if h : n < 14 then
      k0_pay13 v54 v56 (amaxRec v54 v56 x7 a n) (chunkA x7 ⟨n, h⟩) (chunk (dxAcc v54 v56 x7 a n) ⟨n, h⟩)
    else amaxRec v54 v56 x7 a n

/-- The bf16 result after `n` chunks were written over `x`. -/
def dxOut (d : Vec F S512x7168 .f32) (x : Vec F S512x7168 .bf16) : ℕ → Vec F S512x7168 .bf16
  | 0 => x
  | n + 1 => if h : n < 14 then VecWindow.put (dxOut d x n) ![0, 512 * n] S512x512.size (k0_pay6 (chunk d ⟨n, h⟩)) else dxOut d x n

/-- The codes after `n` chunks were written over `x`. -/
def codesOut (v88 : IVec S512x1 1) (v92 : IVec S512x1 32) (d : Vec F S512x7168 .f32) (x : Vec F S512x7168 .fp8e5m2) : ℕ → Vec F S512x7168 .fp8e5m2
  | 0 => x
  | n + 1 => if h : n < 14 then VecWindow.put (codesOut v88 v92 d x n) ![0, 512 * n] S512x512.size (k0_pay7 v88 v92 126#32 (chunk d ⟨n, h⟩)) else codesOut v88 v92 d x n

theorem trips1 : k0_t1_loop.trips = 14 := by decide
theorem trips2 : k0_t2_loop.trips = 14 := by decide

section Closed

variable {c : Dev nD} {i : grid0.Coords} {arg2 : Memref sig .tc .vmem S512x1024 .fp8e5m2} {harg2 : arg2.IsWhole} {arg3 : Memref sig .tc .vmem S512x1 .f32} {harg3 : arg3.IsWhole} {arg4 : Memref sig .tc .vmem S7168x1024 .fp8e4m3} {harg4 : arg4.IsWhole} {arg5 : Memref sig .tc .vmem S1x1024 .f32} {harg5 : arg5.IsWhole} {arg6 : Memref sig .tc .vmem S32x1024 .bf16} {harg6 : arg6.IsWhole} {arg7 : Memref sig .tc .vmem S32x7168 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S512x7168 .fp8e5m2} {harg10 : arg10.IsWhole} {arg11 : Memref sig .tc .vmem S512x1 .f32} {harg11 : arg11.IsWhole} {arg12 : Memref sig .tc .vmem S512x32 .f32} {harg12 : arg12.IsWhole} {arg13 : Memref sig .tc .vmem S32x18432 .f32} {harg13 : arg13.IsWhole} {arg14 : Memref sig .tc .vmem S512x7168 .f32} {harg14 : arg14.IsWhole} {arg15 : Memref sig .tc .vmem S32x512 .f32} {harg15 : arg15.IsWhole} {arg16 : Memref sig .tc .vmem S512x1024 .bf16} {harg16 : arg16.IsWhole} {arg17 : Memref sig .tc .vmem S96x512 .bf16} {harg17 : arg17.IsWhole}

theorem trip1_R (h4 : k0_cond4 i = 1#1) (v54 : Vec F S512x1 .f32) (v56 : Vec F S32x512 .f32) (X7 : BufTy.Contents (Elt F) arg7.view.ty) (k : Fin k0_t1_loop.trips) (acc : FVec F S512x1 .f32) (f : BufTy.Contents (Elt F) arg14.view.ty) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 k acc f
      = k0_pay13 v54 v56 acc (arg7.view.readAt (Elt F) (Rect.unit (s := S32x7168) (k0_off3 k) S32x512.size (k0_off3_inb i k h4)).toLoadRect X7)
          (arg14.view.readAt (Elt F) (Rect.unit (s := S512x7168) (k0_off4 k) S512x512.size (k0_off4_inb i k h4)).toLoadRect f) := by
  unfold tripR_k0_t1 trip_k0_t1; frame_open; rfl

theorem trip1_L (h4 : k0_cond4 i = 1#1) (v54 : Vec F S512x1 .f32) (v56 : Vec F S32x512 .f32) (X7 : BufTy.Contents (Elt F) arg7.view.ty) (k : Fin k0_t1_loop.trips) (acc : FVec F S512x1 .f32) (f : BufTy.Contents (Elt F) arg14.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 k acc f
      = [⟨Rect.unit (s := S512x7168) (k0_off4 k) S512x512.size (k0_off4_inb i k h4), k0_pay12 v54 v56 (arg7.view.readAt (Elt F) (Rect.unit (s := S32x7168) (k0_off3 k) S32x512.size (k0_off3_inb i k h4)).toLoadRect X7)
          (arg14.view.readAt (Elt F) (Rect.unit (s := S512x7168) (k0_off4 k) S512x512.size (k0_off4_inb i k h4)).toLoadRect f)⟩] := by
  unfold tripL_k0_t1 trip_k0_t1; frame_open; rfl

/-- The first loop in closed form: what it carries and what it leaves in the accumulator. -/
theorem st_closed (h4 : k0_cond4 i = 1#1) (v54 : Vec F S512x1 .f32) (v56 : Vec F S32x512 .f32) (X7 : BufTy.Contents (Elt F) arg7.view.ty) (G : BufTy.Contents (Elt F) arg14.view.ty) :
    ∀ n ≤ 14, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 n).1 = amaxRec v54 v56 (arg7.view.read (Elt F) X7) (arg14.view.read (Elt F) G) n
      ∧ arg14.view.read (Elt F) (arg14.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 n).2)
          = dxAcc v54 v56 (arg7.view.read (Elt F) X7) (arg14.view.read (Elt F) G) n := by
  intro n
  induction n with
  | zero => exact fun _ => ⟨rfl, rfl⟩
  | succ n ih =>
    intro hn
    obtain ⟨ih1, ih2⟩ := ih (by omega)
    have hn' : n < 14 := by omega
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 ⟨n, by rw [trips1]; exact hn'⟩
    have e3 : k0_off3 ⟨n, by rw [trips1]; exact hn'⟩ = ![0, 512 * n] := k0_off3_eq _
    have e4 : k0_off4 ⟨n, by rw [trips1]; exact hn'⟩ = ![0, 512 * n] := k0_off4_eq _
    have r7 := View.readAt_unit (Val := Elt F) arg7.view X7 (k0_off3_inb i ⟨n, by rw [trips1]; exact hn'⟩ h4) e3 (chunkA_inb ⟨n, hn'⟩)
    have r14 := fun f => View.readAt_unit (Val := Elt F) arg14.view f (k0_off4_inb i ⟨n, by rw [trips1]; exact hn'⟩ h4) e4 (chunk_inb ⟨n, hn'⟩)
    simp only at hs
    rw [hs, trip1_R, trip1_L, ih1, r7, r14, ih2]
    constructor
    · show _ = (if h : n < 14 then _ else _); rw [dif_pos hn']; rfl
    · rw [List.singleton_append, View.read_writes_cons_put _ _ _ _ _ e4, ih2]
      show _ = (if h : n < 14 then _ else _); rw [dif_pos hn']; rfl

theorem trip2_L (h4 : k0_cond4 i = 1#1) (v88 : IVec S512x1 1) (v92 : IVec S512x1 32) (w : BitVec 32) (X14 : BufTy.Contents (Elt F) arg14.view.ty) (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 w X14 k
      = ([⟨Rect.unit (s := S512x7168) (k0_off5 k) S512x512.size (k0_off5_inb i k h4), k0_pay6 (arg14.view.readAt (Elt F) (Rect.unit (s := S512x7168) (k0_off5 k) S512x512.size (k0_off5_inb i k h4)).toLoadRect X14)⟩],
         [⟨Rect.unit (s := S512x7168) (k0_off5 k) S512x512.size (k0_off5_inb i k h4), k0_pay7 v88 v92 w (arg14.view.readAt (Elt F) (Rect.unit (s := S512x7168) (k0_off5 k) S512x512.size (k0_off5_inb i k h4)).toLoadRect X14)⟩]) := by
  unfold tripL_k0_t2 trip_k0_t2; frame_open; rfl

/-- The second loop in closed form: the bf16 result and the codes. -/
theorem pb_closed (h4 : k0_cond4 i = 1#1) (v88 : IVec S512x1 1) (v92 : IVec S512x1 32) (X14 : BufTy.Contents (Elt F) arg14.view.ty) (G9 : BufTy.Contents (Elt F) arg9.view.ty) (G10 : BufTy.Contents (Elt F) arg10.view.ty) :
    ∀ n ≤ 14, arg9.view.read (Elt F) (arg9.view.writes (Elt F) G9 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 n).1)
        = dxOut (arg14.view.read (Elt F) X14) (arg9.view.read (Elt F) G9) n
      ∧ arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 n).2)
        = codesOut v88 v92 (arg14.view.read (Elt F) X14) (arg10.view.read (Elt F) G10) n := by
  intro n
  induction n with
  | zero => exact fun _ => ⟨rfl, rfl⟩
  | succ n ih =>
    intro hn
    obtain ⟨ih1, ih2⟩ := ih (by omega)
    have hn' : n < 14 := by omega
    have hs := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 ⟨n, by rw [trips2]; exact hn'⟩
    have e5 : k0_off5 ⟨n, by rw [trips2]; exact hn'⟩ = ![0, 512 * n] := k0_off5_eq _
    have r14 := fun f => View.readAt_unit (Val := Elt F) arg14.view f (k0_off5_inb i ⟨n, by rw [trips2]; exact hn'⟩ h4) e5 (chunk_inb ⟨n, hn'⟩)
    rw [trip2_L] at hs
    simp only at hs
    rw [hs, r14]
    constructor
    · rw [List.singleton_append, View.read_writes_cons_put _ _ _ _ _ e5, ih1]
      show _ = (if h : n < 14 then _ else _); rw [dif_pos hn']; rfl
    · simp only [List.singleton_append]
      rw [View.read_writes_cons_put _ _ _ _ _ e5, ih2]
      show _ = (if h : n < 14 then _ else _); rw [dif_pos hn']; rfl

end Closed

/-! ## One grid point -/

/-- The accumulator, the adapter accumulator and the split adapter input a point starts from: cleared, or made, at the first reduction step. -/
def acc0 (i : grid0.Coords) (x14 : Vec F S512x7168 .f32) : Vec F S512x7168 .f32 := if cond0_0 i then k0_pay17 else x14
def tac0 (i : grid0.Coords) (x15 : Vec F S32x512 .f32) : Vec F S32x512 .f32 := if cond0_0 i then k0_pay18 else x15
def xat1 (i : grid0.Coords) (x8 : Vec F S512x32 .f32) (x3 : Vec F S512x1 .f32) (x17 : Vec F S96x512 .bf16) : Vec F S96x512 .bf16 :=
  if cond0_0 i then k0_pay19 x8 x3 else x17

/-- The accumulator after the point's product. -/
def acc1 (i : grid0.Coords) (x2 : Vec F S512x1024 .fp8e5m2) (x4 : Vec F S7168x1024 .fp8e4m3) (x5 : Vec F S1x1024 .f32) (x14 : Vec F S512x7168 .f32) : Vec F S512x7168 .f32 :=
  k0_pay21 (acc0 i x14) (k0_pay20 x2 x5) x4

/-- The adapter accumulator after the point's product. -/
def tac1 (i : grid0.Coords) (x2 : Vec F S512x1024 .fp8e5m2) (x6 : Vec F S32x1024 .bf16) (x15 : Vec F S32x512 .f32) : Vec F S32x512 .f32 :=
  k0_pay1 (k0_pay22 (tac0 i x15) x6 x2)

theorem db_inb (i : grid0.Coords) : ∀ a, (![0, 1024 * (i 1).val] : Fin 2 → ℕ) a + S32x1024.size a ≤ S32x18432.size a := by
  have h : (i 1).val < 18 := (i 1).isLt
  intro a; fin_cases a
  · exact Nat.le_refl 32
  · show 1024 * (i 1).val + 1024 ≤ 18432; omega

/-- The gradient's columns the point adds to. -/
def dbOld (i : grid0.Coords) (x13 : Vec F S32x18432 .f32) : Vec F S32x1024 .f32 :=
  VecWindow.window x13 ![0, 1024 * (i 1).val] S32x1024.size (db_inb i)

/-- The gradient after the point: its columns set by the first row block, added to by the later ones. -/
def db1 (i : grid0.Coords) (x2 : Vec F S512x1024 .fp8e5m2) (xat : Vec F S96x512 .bf16) (x13 : Vec F S32x18432 .f32) : Vec F S32x18432 .f32 :=
  VecWindow.put x13 ![0, 1024 * (i 1).val] S32x1024.size (if cond0_1 i then k0_pay2 xat x2 else k0_pay3 xat x2 (dbOld i x13))

/-- What the last reduction step writes, from the finished accumulators `a`, `t` of the point. -/
def dxF (x3 : Vec F S512x1 .f32) (x7 : Vec F S32x7168 .bf16) (a : Vec F S512x7168 .f32) (t : Vec F S32x512 .f32) : Vec F S512x7168 .f32 := dxAcc x3 t x7 a 14
def amaxF (x3 : Vec F S512x1 .f32) (x7 : Vec F S32x7168 .bf16) (a : Vec F S512x7168 .f32) (t : Vec F S32x512 .f32) : FVec F S512x1 .f32 := amaxRec x3 t x7 a 14
def scaleF (x3 : Vec F S512x1 .f32) (x7 : Vec F S32x7168 .bf16) (a : Vec F S512x7168 .f32) (t : Vec F S32x512 .f32) : Vec F S512x1 .f32 :=
  k0_pay5 (k0_pay15 (amaxF x3 x7 a t)) (k0_pay16 (amaxF x3 x7 a t)) 126#32
def codesF (x3 : Vec F S512x1 .f32) (x7 : Vec F S32x7168 .bf16) (a : Vec F S512x7168 .f32) (t : Vec F S32x512 .f32) (x10 : Vec F S512x7168 .fp8e5m2) : Vec F S512x7168 .fp8e5m2 :=
  codesOut (k0_pay15 (amaxF x3 x7 a t)) (k0_pay16 (amaxF x3 x7 a t)) (dxF x3 x7 a t) x10 14

end Cert.Kernel.Hand

end
-- ==== Proof.MainK.Full.lean ====
/- Whole-buffer loads and stores read back, and the two loops at their last trip: the rewriting that opens a grid point's run. -/
module

public import proofs.«01_k».proof.Proof.MainK.State

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Views

variable {sig' : RefSig} {κ : Kind} {sp : Space} {S : Shape} {e : EltTy} {Val : EltTy → Type}

theorem full_readAt (v : View sig' κ sp S e) (f : v.ty.Contents Val) {off : Fin S.rank → ℕ} (inb : ∀ a, off a + S.size a ≤ S.size a) :
    v.readAt Val (Rect.unit off (no_index S.size) inb).toLoadRect f = v.read Val f := View.readAt_full v f inb

theorem full_writes (v : View sig' κ sp S e) (f : v.ty.Contents Val) {off : Fin S.rank → ℕ} (inb : ∀ a, off a + S.size a ≤ S.size a)
    (w : S.Idx → Val e) (L : List (View.Piece Val S e)) :
    v.read Val (v.writes Val f ((⟨Rect.unit off (no_index S.size) inb, w⟩ : View.Piece Val S e) :: L)) = w := View.read_writes_full v f inb w L

theorem full_cov [∀ e, Nonempty (Val e)] (v : View sig' κ sp S e) {off off' : Fin S.rank → ℕ} (inb : ∀ a, off a + S.size a ≤ S.size a)
    (inb' : ∀ a, off' a + S.size a ≤ S.size a) (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

end Views

theorem trips1' : Scf.trips k0_t1_loop.lb k0_t1_loop.ub k0_t1_loop.st = 14 := trips1
theorem trips0' : Scf.trips (0#32) (Scalar.addi 0#32 14#32) 1#32 = 14 := trips1
theorem trips2' : Scf.trips k0_t2_loop.lb k0_t2_loop.ub k0_t2_loop.st = 14 := trips2

section Closed

variable {c : Dev nD} {i : grid0.Coords} {arg2 : Memref sig .tc .vmem S512x1024 .fp8e5m2} {harg2 : arg2.IsWhole} {arg3 : Memref sig .tc .vmem S512x1 .f32} {harg3 : arg3.IsWhole} {arg4 : Memref sig .tc .vmem S7168x1024 .fp8e4m3} {harg4 : arg4.IsWhole} {arg5 : Memref sig .tc .vmem S1x1024 .f32} {harg5 : arg5.IsWhole} {arg6 : Memref sig .tc .vmem S32x1024 .bf16} {harg6 : arg6.IsWhole} {arg7 : Memref sig .tc .vmem S32x7168 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S512x7168 .fp8e5m2} {harg10 : arg10.IsWhole} {arg11 : Memref sig .tc .vmem S512x1 .f32} {harg11 : arg11.IsWhole} {arg12 : Memref sig .tc .vmem S512x32 .f32} {harg12 : arg12.IsWhole} {arg13 : Memref sig .tc .vmem S32x18432 .f32} {harg13 : arg13.IsWhole} {arg14 : Memref sig .tc .vmem S512x7168 .f32} {harg14 : arg14.IsWhole} {arg15 : Memref sig .tc .vmem S32x512 .f32} {harg15 : arg15.IsWhole} {arg16 : Memref sig .tc .vmem S512x1024 .bf16} {harg16 : arg16.IsWhole} {arg17 : Memref sig .tc .vmem S96x512 .bf16} {harg17 : arg17.IsWhole}

theorem st_fst (h4 : k0_cond4 i = 1#1) (v54 : Vec F S512x1 .f32) (v56 : Vec F S32x512 .f32) (X7 : BufTy.Contents (Elt F) arg7.view.ty) (G : BufTy.Contents (Elt F) arg14.view.ty) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).1 = amaxRec v54 v56 (arg7.view.read (Elt F) X7) (arg14.view.read (Elt F) G) 14 :=
  (st_closed h4 v54 v56 X7 G 14 (le_refl _)).1

theorem st_snd (h4 : k0_cond4 i = 1#1) (v54 : Vec F S512x1 .f32) (v56 : Vec F S32x512 .f32) (X7 : BufTy.Contents (Elt F) arg7.view.ty) (G : BufTy.Contents (Elt F) arg14.view.ty) :
    arg14.view.read (Elt F) (arg14.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).2)
      = dxAcc v54 v56 (arg7.view.read (Elt F) X7) (arg14.view.read (Elt F) G) 14 :=
  (st_closed h4 v54 v56 X7 G 14 (le_refl _)).2

theorem pb_fst (h4 : k0_cond4 i = 1#1) (v88 : IVec S512x1 1) (v92 : IVec S512x1 32) (X14 : BufTy.Contents (Elt F) arg14.view.ty) (G9 : BufTy.Contents (Elt F) arg9.view.ty) :
    arg9.view.read (Elt F) (arg9.view.writes (Elt F) G9 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 14).1)
      = dxOut (arg14.view.read (Elt F) X14) (arg9.view.read (Elt F) G9) 14 :=
  (pb_closed h4 v88 v92 X14 G9 (arg10.view.junk) 14 (le_refl _)).1

theorem pb_snd (h4 : k0_cond4 i = 1#1) (v88 : IVec S512x1 1) (v92 : IVec S512x1 32) (X14 : BufTy.Contents (Elt F) arg14.view.ty) (G10 : BufTy.Contents (Elt F) arg10.view.ty) :
    arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 126#32 X14 14).2)
      = codesOut v88 v92 (arg14.view.read (Elt F) X14) (arg10.view.read (Elt F) G10) 14 :=
  (pb_closed h4 v88 v92 X14 (arg9.view.junk) G10 14 (le_refl _)).2

end Closed

end Cert.Kernel.Hand

end
-- ==== Proof.MainK.RunA.lean ====
/- The main call's body at the first reduction step of the first row block. -/
module

public import proofs.«01_k».proof.Proof.MainK.Full

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first reduction step of the first row block: what it leaves in each buffer. -/
theorem runA (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : cond0_0 i) (hc1 : cond0_1 i) (hc2 : ¬cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_pos hc0, if_pos hc1, if_neg hc3]
  isplitl [H10]
  · iexists _; isplitr; swap; · iexact H10
    ipureintro
    frame_open
    simp only [full_readAt, full_writes, full_cov, Memref.IsWhole.read_unread, acc0, acc1, tac0, tac1, xat1, db1, dbOld, if_pos hc0, if_pos hc1, if_neg hc3]
  isplitl [H11]
  · iexists _; isplitr; swap; · iexact H11
    ipureintro
    frame_open
    simp only [full_readAt, full_writes, full_cov, Memref.IsWhole.read_unread, acc0, acc1, tac0, tac1, xat1, db1, dbOld, if_pos hc0, if_pos hc1, if_neg hc3]
  isplitl [H12]
  · iexists _; isplitr; swap; · iexact H12
    ipureintro
    frame_open
    simp only [full_readAt, full_writes, full_cov, Memref.IsWhole.read_unread, acc0, acc1, tac0, tac1, xat1, db1, dbOld, if_pos hc0, if_pos hc1, if_neg hc3]
  isplitl [H13]
  · iexists _; isplitr; swap; · iexact H13
    ipureintro
    frame_open
    refine (View.read_writes_cons_put _ _ _ _ _ (k0_off1_eq i)).trans ?_
    simp only [View.writes_nil, full_readAt, full_writes, full_cov, Memref.IsWhole.read_unread, acc0, acc1, tac0, tac1, xat1, db1, dbOld, if_pos hc0, if_pos hc1, if_neg hc3]
  isplitl [H14]
  · iexists _; isplitr; swap; · iexact H14
    ipureintro
    frame_open
    simp only [full_readAt, full_writes, full_cov, Memref.IsWhole.read_unread, acc0, acc1, tac0, tac1, xat1, db1, dbOld, if_pos hc0, if_pos hc1, if_neg hc3]
  isplitl [H15]
  · iexists _; isplitr; swap; · iexact H15
    ipureintro
    frame_open
    simp only [full_readAt, full_writes, full_cov, Memref.IsWhole.read_unread, acc0, acc1, tac0, tac1, xat1, db1, dbOld, if_pos hc0, if_pos hc1, if_neg hc3]
  isplitl [H16]
  · iexists _; isplitr; swap; · iexact H16
    ipureintro
    frame_open
    simp only [full_readAt, full_writes, full_cov, Memref.IsWhole.read_unread, acc0, acc1, tac0, tac1, xat1, db1, dbOld, if_pos hc0, if_pos hc1, if_neg hc3]
  iexists _; isplitr; swap; · iexact H17
  ipureintro
  frame_open
  simp only [full_readAt, full_writes, full_cov, Memref.IsWhole.read_unread, acc0, acc1, tac0, tac1, xat1, db1, dbOld, if_pos hc0, if_pos hc1, if_neg hc3]

end Cert.Kernel.Hand

end
-- ==== Proof.MainK.RunB.lean ====
/- The main call's body at the middle reduction step of the first row block. -/
module

public import proofs.«01_k».proof.Proof.MainK.Full

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the middle reduction step of the first row block: what it leaves in each buffer. -/
theorem runB (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : cond0_1 i) (hc2 : ¬cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_neg hc0, if_pos hc1, if_neg hc3]
  isplitl [H10]
  · iexists _; isplitr; swap; · iexact H10
    ipureintro
    frame_open
    simp only [full_readAt, full_writes, full_cov, Memref.IsWhole.read_unread, acc0, acc1, tac0, tac1, xat1, db1, dbOld, if_neg hc0, if_pos hc1, if_neg hc3]
  isplitl [H11]
  · iexists _; isplitr; swap; · iexact H11
    ipureintro
    frame_open
    simp only [full_readAt, full_writes, full_cov, Memref.IsWhole.read_unread, acc0, acc1, tac0, tac1, xat1, db1, dbOld, if_neg hc0, if_pos hc1, if_neg hc3]
  isplitl [H12]
  · iexists _; isplitr; swap; · iexact H12
    ipureintro
    frame_open
    simp only [full_readAt, full_writes, full_cov, Memref.IsWhole.read_unread, acc0, acc1, tac0, tac1, xat1, db1, dbOld, if_neg hc0, if_pos hc1, if_neg hc3]
  isplitl [H13]
  · iexists _; isplitr; swap; · iexact H13
    ipureintro
    frame_open
    refine (View.read_writes_cons_put _ _ _ _ _ (k0_off1_eq i)).trans ?_
    simp only [View.writes_nil, full_readAt, full_writes, full_cov, Memref.IsWhole.read_unread, acc0, acc1, tac0, tac1, xat1, db1, dbOld, if_neg hc0, if_pos hc1, if_neg hc3]
  isplitl [H14]
  · iexists _; isplitr; swap; · iexact H14
    ipureintro
    frame_open
    simp only [full_readAt, full_writes, full_cov, Memref.IsWhole.read_unread, acc0, acc1, tac0, tac1, xat1, db1, dbOld, if_neg hc0, if_pos hc1, if_neg hc3]
  isplitl [H15]
  · iexists _; isplitr; swap; · iexact H15
    ipureintro
    frame_open
    simp only [full_readAt, full_writes, full_cov, Memref.IsWhole.read_unread, acc0, acc1, tac0, tac1, xat1, db1, dbOld, if_neg hc0, if_pos hc1, if_neg hc3]
  isplitl [H16]
  · iexists _; isplitr; swap; · iexact H16
    ipureintro
    frame_open
    simp only [full_readAt, full_writes, full_cov, Memref.IsWhole.read_unread, acc0, acc1, tac0, tac1, xat1, db1, dbOld, if_neg hc0, if_pos hc1, if_neg hc3]
  iexists _; isplitr; swap; · iexact H17
  ipureintro
  frame_open
  simp only [full_readAt, full_writes, full_cov, Memref.IsWhole.read_unread, acc0, acc1, tac0, tac1, xat1, db1, dbOld, if_neg hc0, if_pos hc1, if_neg hc3]

end Cert.Kernel.Hand

end
-- ==== Proof.MainK.FullB.lean ====
/- Whole-buffer loads and stores read back, and the two loops at their last trip: the rewriting that opens a grid point's run. -/
module

public import proofs.«01_k».proof.Proof.MainK.Full

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Closed

variable {c : Dev nD} {i : grid0.Coords} {arg2 : Memref sig .tc .vmem S512x1024 .fp8e5m2} {harg2 : arg2.IsWhole} {arg3 : Memref sig .tc .vmem S512x1 .f32} {harg3 : arg3.IsWhole} {arg4 : Memref sig .tc .vmem S7168x1024 .fp8e4m3} {harg4 : arg4.IsWhole} {arg5 : Memref sig .tc .vmem S1x1024 .f32} {harg5 : arg5.IsWhole} {arg6 : Memref sig .tc .vmem S32x1024 .bf16} {harg6 : arg6.IsWhole} {arg7 : Memref sig .tc .vmem S32x7168 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S512x7168 .fp8e5m2} {harg10 : arg10.IsWhole} {arg11 : Memref sig .tc .vmem S512x1 .f32} {harg11 : arg11.IsWhole} {arg12 : Memref sig .tc .vmem S512x32 .f32} {harg12 : arg12.IsWhole} {arg13 : Memref sig .tc .vmem S32x18432 .f32} {harg13 : arg13.IsWhole} {arg14 : Memref sig .tc .vmem S512x7168 .f32} {harg14 : arg14.IsWhole} {arg15 : Memref sig .tc .vmem S32x512 .f32} {harg15 : arg15.IsWhole} {arg16 : Memref sig .tc .vmem S512x1024 .bf16} {harg16 : arg16.IsWhole} {arg17 : Memref sig .tc .vmem S96x512 .bf16} {harg17 : arg17.IsWhole}

theorem st_fst' (h4 : cond0_3 i) (v54 : Vec F S512x1 .f32) (v56 : Vec F S32x512 .f32) (X7 : BufTy.Contents (Elt F) arg7.view.ty) (G : BufTy.Contents (Elt F) arg14.view.ty) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).1 = amaxRec v54 v56 (arg7.view.read (Elt F) X7) (arg14.view.read (Elt F) G) 14 :=
  (st_closed h4 v54 v56 X7 G 14 (le_refl _)).1

theorem st_snd' (h4 : cond0_3 i) (v54 : Vec F S512x1 .f32) (v56 : Vec F S32x512 .f32) (X7 : BufTy.Contents (Elt F) arg7.view.ty) (G : BufTy.Contents (Elt F) arg14.view.ty) :
    arg14.view.read (Elt F) (arg14.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v54 v56 X7 G k0_pay10 14).2)
      = dxAcc v54 v56 (arg7.view.read (Elt F) X7) (arg14.view.read (Elt F) G) 14 :=
  (st_closed h4 v54 v56 X7 G 14 (le_refl _)).2

theorem pb_fst' (h4 : cond0_3 i) (v88 : IVec S512x1 1) (v92 : IVec S512x1 32) (X14 : BufTy.Contents (Elt F) arg14.view.ty) (G9 : BufTy.Contents (Elt F) arg9.view.ty) :
    arg9.view.read (Elt F) (arg9.view.writes (Elt F) G9 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 (126#32) X14 14).1)
      = dxOut (arg14.view.read (Elt F) X14) (arg9.view.read (Elt F) G9) 14 :=
  (pb_closed h4 v88 v92 X14 G9 (arg10.view.junk) 14 (le_refl _)).1

theorem pb_snd' (h4 : cond0_3 i) (v88 : IVec S512x1 1) (v92 : IVec S512x1 32) (X14 : BufTy.Contents (Elt F) arg14.view.ty) (G10 : BufTy.Contents (Elt F) arg10.view.ty) :
    arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 v88 v92 (126#32) X14 14).2)
      = codesOut v88 v92 (arg14.view.read (Elt F) X14) (arg10.view.read (Elt F) G10) 14 :=
  (pb_closed h4 v88 v92 X14 (arg9.view.junk) G10 14 (le_refl _)).2

end Closed

end Cert.Kernel.Hand

end
-- ==== Proof.MainK.RunC.lean ====
/- The main call's body at the last reduction step of the first row block. -/
module

public import proofs.«01_k».proof.Proof.MainK.FullB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last reduction step of the first row block: what it leaves in each buffer. -/
theorem runC (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : cond0_1 i) (hc2 : ¬cond0_2 i) (hc3 : cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [pb_fst', st_snd']
    simp only [full_readAt, full_writes, full_cov, Memref.IsWhole.read_unread]
  isplitl [H10]
  · iexists _; isplitr; swap; · iexact H10
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [pb_snd', st_fst', st_snd']
    simp only [full_readAt, full_writes, full_cov, Memref.IsWhole.read_unread]
  isplitl [H11]
  · iexists _; isplitr; swap; · iexact H11
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [st_fst']
    simp only [full_readAt, full_writes, full_cov, Memref.IsWhole.read_unread]
  isplitl [H12]
  · iexists _; isplitr; swap; · iexact H12
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
  isplitl [H13]
  · iexists _; isplitr; swap; · iexact H13
    ipureintro
    frame_open
    refine (View.read_writes_cons_put _ _ _ _ _ (k0_off1_eq i)).trans ?_
    simp only [View.writes_nil, full_readAt, full_writes, full_cov, Memref.IsWhole.read_unread, acc0, acc1, tac0, tac1, xat1, db1, dbOld, scaleF, codesF, dxF, amaxF, if_neg hc0, if_pos hc1, if_pos hc3]
  isplitl [H14]
  · iexists _; isplitr; swap; · iexact H14
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
    rw [st_snd']
    simp only [full_readAt, full_writes, full_cov, Memref.IsWhole.read_unread]
  isplitl [H15]
  · iexists _; isplitr; swap; · iexact H15
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
  isplitl [H16]
  · iexists _; isplitr; swap; · iexact H16
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]
  iexists _; isplitr; swap; · iexact H17
  ipureintro
  frame_open
  simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_pos hc1, if_pos hc3]

end Cert.Kernel.Hand

end
-- ==== Proof.MainK.RunD.lean ====
/- The main call's body at the first reduction step of a later row block. -/
module

public import proofs.«01_k».proof.Proof.MainK.Full

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first reduction step of a later row block: what it leaves in each buffer. -/
theorem runD (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : cond0_0 i) (hc1 : ¬cond0_1 i) (hc2 : cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_pos hc0, if_neg hc1, if_neg hc3]
  isplitl [H10]
  · iexists _; isplitr; swap; · iexact H10
    ipureintro
    frame_open
    simp only [full_readAt, full_writes, full_cov, Memref.IsWhole.read_unread, acc0, acc1, tac0, tac1, xat1, db1, dbOld, if_pos hc0, if_neg hc1, if_neg hc3]
  isplitl [H11]
  · iexists _; isplitr; swap; · iexact H11
    ipureintro
    frame_open
    simp only [full_readAt, full_writes, full_cov, Memref.IsWhole.read_unread, acc0, acc1, tac0, tac1, xat1, db1, dbOld, if_pos hc0, if_neg hc1, if_neg hc3]
  isplitl [H12]
  · iexists _; isplitr; swap; · iexact H12
    ipureintro
    frame_open
    simp only [full_readAt, full_writes, full_cov, Memref.IsWhole.read_unread, acc0, acc1, tac0, tac1, xat1, db1, dbOld, if_pos hc0, if_neg hc1, if_neg hc3]
  isplitl [H13]
  · iexists _; isplitr; swap; · iexact H13
    ipureintro
    frame_open
    refine (View.read_writes_cons_put _ _ _ _ _ (k0_off2_eq i)).trans ?_
    rw [View.readAt_unit (Val := Elt F) arg13.view (harg13.unread x13) (size := S32x1024.size) (k0_off2_inb i hc2) (k0_off2_eq i) (db_inb i)]
    simp only [View.writes_nil, full_readAt, full_writes, full_cov, Memref.IsWhole.read_unread, acc0, acc1, tac0, tac1, xat1, db1, dbOld, if_pos hc0, if_neg hc1, if_neg hc3]
  isplitl [H14]
  · iexists _; isplitr; swap; · iexact H14
    ipureintro
    frame_open
    simp only [full_readAt, full_writes, full_cov, Memref.IsWhole.read_unread, acc0, acc1, tac0, tac1, xat1, db1, dbOld, if_pos hc0, if_neg hc1, if_neg hc3]
  isplitl [H15]
  · iexists _; isplitr; swap; · iexact H15
    ipureintro
    frame_open
    simp only [full_readAt, full_writes, full_cov, Memref.IsWhole.read_unread, acc0, acc1, tac0, tac1, xat1, db1, dbOld, if_pos hc0, if_neg hc1, if_neg hc3]
  isplitl [H16]
  · iexists _; isplitr; swap; · iexact H16
    ipureintro
    frame_open
    simp only [full_readAt, full_writes, full_cov, Memref.IsWhole.read_unread, acc0, acc1, tac0, tac1, xat1, db1, dbOld, if_pos hc0, if_neg hc1, if_neg hc3]
  iexists _; isplitr; swap; · iexact H17
  ipureintro
  frame_open
  simp only [full_readAt, full_writes, full_cov, Memref.IsWhole.read_unread, acc0, acc1, tac0, tac1, xat1, db1, dbOld, if_pos hc0, if_neg hc1, if_neg hc3]

end Cert.Kernel.Hand

end
-- ==== Proof.MainK.RunE.lean ====
/- The main call's body at the middle reduction step of a later row block. -/
module

public import proofs.«01_k».proof.Proof.MainK.Full

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the middle reduction step of a later row block: what it leaves in each buffer. -/
theorem runE (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : ¬cond0_1 i) (hc2 : cond0_2 i) (hc3 : ¬cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [full_readAt, full_writes, full_cov, Memref.IsWhole.read_unread, acc0, acc1, tac0, tac1, xat1, db1, dbOld, if_neg hc0, if_neg hc1, if_neg hc3]
  isplitl [H10]
  · iexists _; isplitr; swap; · iexact H10
    ipureintro
    frame_open
    simp only [full_readAt, full_writes, full_cov, Memref.IsWhole.read_unread, acc0, acc1, tac0, tac1, xat1, db1, dbOld, if_neg hc0, if_neg hc1, if_neg hc3]
  isplitl [H11]
  · iexists _; isplitr; swap; · iexact H11
    ipureintro
    frame_open
    simp only [full_readAt, full_writes, full_cov, Memref.IsWhole.read_unread, acc0, acc1, tac0, tac1, xat1, db1, dbOld, if_neg hc0, if_neg hc1, if_neg hc3]
  isplitl [H12]
  · iexists _; isplitr; swap; · iexact H12
    ipureintro
    frame_open
    simp only [full_readAt, full_writes, full_cov, Memref.IsWhole.read_unread, acc0, acc1, tac0, tac1, xat1, db1, dbOld, if_neg hc0, if_neg hc1, if_neg hc3]
  isplitl [H13]
  · iexists _; isplitr; swap; · iexact H13
    ipureintro
    frame_open
    refine (View.read_writes_cons_put _ _ _ _ _ (k0_off2_eq i)).trans ?_
    rw [View.readAt_unit (Val := Elt F) arg13.view (harg13.unread x13) (size := S32x1024.size) (k0_off2_inb i hc2) (k0_off2_eq i) (db_inb i)]
    simp only [View.writes_nil, full_readAt, full_writes, full_cov, Memref.IsWhole.read_unread, acc0, acc1, tac0, tac1, xat1, db1, dbOld, if_neg hc0, if_neg hc1, if_neg hc3]
  isplitl [H14]
  · iexists _; isplitr; swap; · iexact H14
    ipureintro
    frame_open
    simp only [full_readAt, full_writes, full_cov, Memref.IsWhole.read_unread, acc0, acc1, tac0, tac1, xat1, db1, dbOld, if_neg hc0, if_neg hc1, if_neg hc3]
  isplitl [H15]
  · iexists _; isplitr; swap; · iexact H15
    ipureintro
    frame_open
    simp only [full_readAt, full_writes, full_cov, Memref.IsWhole.read_unread, acc0, acc1, tac0, tac1, xat1, db1, dbOld, if_neg hc0, if_neg hc1, if_neg hc3]
  isplitl [H16]
  · iexists _; isplitr; swap; · iexact H16
    ipureintro
    frame_open
    simp only [full_readAt, full_writes, full_cov, Memref.IsWhole.read_unread, acc0, acc1, tac0, tac1, xat1, db1, dbOld, if_neg hc0, if_neg hc1, if_neg hc3]
  iexists _; isplitr; swap; · iexact H17
  ipureintro
  frame_open
  simp only [full_readAt, full_writes, full_cov, Memref.IsWhole.read_unread, acc0, acc1, tac0, tac1, xat1, db1, dbOld, if_neg hc0, if_neg hc1, if_neg hc3]

end Cert.Kernel.Hand

end
-- ==== Proof.MainK.RunF.lean ====
/- The main call's body at the last reduction step of a later row block. -/
module

public import proofs.«01_k».proof.Proof.MainK.FullB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last reduction step of a later row block: what it leaves in each buffer. -/
theorem runF (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (hc0 : ¬cond0_0 i) (hc1 : ¬cond0_1 i) (hc2 : cond0_2 i) (hc3 : cond0_3 i)
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_main_eq_skeleton]; unfold cc0_main_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [pb_fst', st_snd']
    simp only [full_readAt, full_writes, full_cov, Memref.IsWhole.read_unread]
  isplitl [H10]
  · iexists _; isplitr; swap; · iexact H10
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [pb_snd', st_fst', st_snd']
    simp only [full_readAt, full_writes, full_cov, Memref.IsWhole.read_unread]
  isplitl [H11]
  · iexists _; isplitr; swap; · iexact H11
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [st_fst']
    simp only [full_readAt, full_writes, full_cov, Memref.IsWhole.read_unread]
  isplitl [H12]
  · iexists _; isplitr; swap; · iexact H12
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
  isplitl [H13]
  · iexists _; isplitr; swap; · iexact H13
    ipureintro
    frame_open
    refine (View.read_writes_cons_put _ _ _ _ _ (k0_off2_eq i)).trans ?_
    rw [View.readAt_unit (Val := Elt F) arg13.view (harg13.unread x13) (size := S32x1024.size) (k0_off2_inb i hc2) (k0_off2_eq i) (db_inb i)]
    simp only [View.writes_nil, full_readAt, full_writes, full_cov, Memref.IsWhole.read_unread, acc0, acc1, tac0, tac1, xat1, db1, dbOld, scaleF, codesF, dxF, amaxF, if_neg hc0, if_neg hc1, if_pos hc3]
  isplitl [H14]
  · iexists _; isplitr; swap; · iexact H14
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
    rw [st_snd']
    simp only [full_readAt, full_writes, full_cov, Memref.IsWhole.read_unread]
  isplitl [H15]
  · iexists _; isplitr; swap; · iexact H15
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
  isplitl [H16]
  · iexists _; isplitr; swap; · iexact H16
    ipureintro
    frame_open
    simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]
  iexists _; isplitr; swap; · iexact H17
  ipureintro
  frame_open
  simp only [trips0', trips1', trips2', View.writes_append, st_fst', st_snd', pb_fst', pb_snd', full_readAt, full_writes, full_cov, Memref.IsWhole.read_unread, acc0, acc1, tac0, tac1, xat1, db1, dbOld, scaleF, codesF, dxF, amaxF, if_neg hc0, if_neg hc1, if_pos hc3]

end Cert.Kernel.Hand

end
-- ==== Proof.MainK.Body.lean ====
/- The body at every grid point, the proof data of the pipeline with what each window and the carried scratch holds, and the run of the main call. -/
module

public import proofs.«01_k».proof.Proof.MainK.RunA
public import proofs.«01_k».proof.Proof.MainK.RunB
public import proofs.«01_k».proof.Proof.MainK.RunC
public import proofs.«01_k».proof.Proof.MainK.RunD
public import proofs.«01_k».proof.Proof.MainK.RunE
public import proofs.«01_k».proof.Proof.MainK.RunF

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at any point: what it leaves in each buffer, the six cases of its branch conditions together. -/
theorem runAll (c : Dev nD) (i : grid0.Coords) (arg2 : Memref sig .tc .vmem S512x1024 .fp8e5m2) (harg2 : arg2.IsWhole) (arg3 : Memref sig .tc .vmem S512x1 .f32) (harg3 : arg3.IsWhole) (arg4 : Memref sig .tc .vmem S7168x1024 .fp8e4m3) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x7168 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S512x7168 .fp8e5m2) (harg10 : arg10.IsWhole) (arg11 : Memref sig .tc .vmem S512x1 .f32) (harg11 : arg11.IsWhole) (arg12 : Memref sig .tc .vmem S512x32 .f32) (harg12 : arg12.IsWhole) (arg13 : Memref sig .tc .vmem S32x18432 .f32) (harg13 : arg13.IsWhole) (arg14 : Memref sig .tc .vmem S512x7168 .f32) (harg14 : arg14.IsWhole) (arg15 : Memref sig .tc .vmem S32x512 .f32) (harg15 : arg15.IsWhole) (arg16 : Memref sig .tc .vmem S512x1024 .bf16) (harg16 : arg16.IsWhole) (arg17 : Memref sig .tc .vmem S96x512 .bf16) (harg17 : arg17.IsWhole)
    (h12 : cond0_2 i ↔ ¬cond0_1 i) (h03 : ¬(cond0_0 i ∧ cond0_3 i))
    (x2 : Vec F S512x1024 .fp8e5m2) (x3 : Vec F S512x1 .f32) (x4 : Vec F S7168x1024 .fp8e4m3) (x5 : Vec F S1x1024 .f32) (x6 : Vec F S32x1024 .bf16) (x7 : Vec F S32x7168 .bf16) (x8 : Vec F S512x32 .f32) (x9 : Vec F S512x7168 .bf16) (x10 : Vec F S512x7168 .fp8e5m2) (x11 : Vec F S512x1 .f32) (x12 : Vec F S512x32 .f32) (x13 : Vec F S32x18432 .f32) (x14 : Vec F S512x7168 .f32) (x15 : Vec F S32x512 .f32) (x16 : Vec F S512x1024 .bf16) (x17 : Vec F S96x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if cond0_3 i then dxOut (dxF x3 x7 (acc1 i x2 x4 x5 x14) (tac1 i x2 x6 x15)) x9 14 else x9) ∗ owns (c : Thread nD τ) arg10 fullShare (if cond0_3 i then codesF x3 x7 (acc1 i x2 x4 x5 x14) (tac1 i x2 x6 x15) x10 else x10) ∗ owns (c : Thread nD τ) arg11 fullShare (if cond0_3 i then scaleF x3 x7 (acc1 i x2 x4 x5 x14) (tac1 i x2 x6 x15) else x11) ∗ owns (c : Thread nD τ) arg12 fullShare (if cond0_3 i then k0_pay9 x3 (tac1 i x2 x6 x15) else x12) ∗ owns (c : Thread nD τ) arg13 fullShare (db1 i x2 (xat1 i x8 x3 x17) x13) ∗ owns (c : Thread nD τ) arg14 fullShare (if cond0_3 i then dxF x3 x7 (acc1 i x2 x4 x5 x14) (tac1 i x2 x6 x15) else (acc1 i x2 x4 x5 x14)) ∗ owns (c : Thread nD τ) arg15 fullShare (tac1 i x2 x6 x15) ∗ owns (c : Thread nD τ) arg16 fullShare (k0_pay20 x2 x5) ∗ owns (c : Thread nD τ) arg17 fullShare (xat1 i x8 x3 x17)) -∗ K PUnit.unit))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc0 : cond0_0 i
  · have hc3 : ¬cond0_3 i := fun h => h03 ⟨hc0, h⟩
    by_cases hc1 : cond0_1 i
    · have hc2 : ¬cond0_2 i := fun h => h12.mp h hc1
      exact runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
    · have hc2 : cond0_2 i := h12.mpr hc1
      exact runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
  · by_cases hc3 : cond0_3 i
    · by_cases hc1 : cond0_1 i
      · have hc2 : ¬cond0_2 i := fun h => h12.mp h hc1
        exact runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
      · have hc2 : cond0_2 i := h12.mpr hc1
        exact runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
    · by_cases hc1 : cond0_1 i
      · have hc2 : ¬cond0_2 i := fun h => h12.mp h hc1
        exact runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K
      · have hc2 : cond0_2 i := h12.mpr hc1
        exact runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x2 x3 x4 x5 x6 x7 x8 x9 x10 x11 x12 x13 x14 x15 x16 x17 E K

variable (m : (ℓ : Loc nD τ sig) → Buf (Elt F) ℓ) (ρ : Dev nD → PrngReg)

/-! ## What the kernel carries between points -/

/-- The carried scratch before point `n`: the accumulator, the adapter accumulator and the split operand. -/
def carry (c : Dev nD) : ℕ → Vec F S512x7168 .f32 × Vec F S32x512 .f32 × Vec F S96x512 .bf16
  | 0 => (k0_pay17, k0_pay18, fun _ => FloatOps.ofBits .bf16 0)
  | n + 1 => if h : n < cfg0.N then
      (acc1 (grid0.coords ⟨n, h⟩) (iblk m c 0 ⟨n, h⟩) (iblk m c 2 ⟨n, h⟩) (iblk m c 3 ⟨n, h⟩) (carry c n).1,
       tac1 (grid0.coords ⟨n, h⟩) (iblk m c 0 ⟨n, h⟩) (iblk m c 4 ⟨n, h⟩) (carry c n).2.1,
       xat1 (grid0.coords ⟨n, h⟩) (iblk m c 6 ⟨n, h⟩) (iblk m c 1 ⟨n, h⟩) (carry c n).2.2)
    else carry c n

/-- The three parts after point `t`. -/
def accAt (c : Dev nD) (t : Fin cfg0.N) : Vec F S512x7168 .f32 := acc1 (grid0.coords t) (iblk m c 0 t) (iblk m c 2 t) (iblk m c 3 t) (carry m c t.val).1
def tacAt (c : Dev nD) (t : Fin cfg0.N) : Vec F S32x512 .f32 := tac1 (grid0.coords t) (iblk m c 0 t) (iblk m c 4 t) (carry m c t.val).2.1
def xatAt (c : Dev nD) (t : Fin cfg0.N) : Vec F S96x512 .bf16 := xat1 (grid0.coords t) (iblk m c 6 t) (iblk m c 1 t) (carry m c t.val).2.2

theorem carry_succ (c : Dev nD) (t : Fin cfg0.N) : carry m c (t.val + 1) = (accAt m c t, tacAt m c t, xatAt m c t) := by
  rw [carry, dif_pos t.isLt]; rfl

theorem acc1_eq (c : Dev nD) (t : Fin cfg0.N) (d : Vec F S512x7168 .f32) (h : t.val % 18 ≠ 0 → d = (carry m c t.val).1) :
    acc1 (grid0.coords t) (iblk m c 0 t) (iblk m c 2 t) (iblk m c 3 t) d = accAt m c t := by
  unfold accAt acc1 acc0
  by_cases h0 : cond0_0 (grid0.coords t)
  · rw [if_pos h0, if_pos h0]
  · rw [if_neg h0, if_neg h0, h fun e => h0 ((hcond0_0 t).mpr e)]

theorem tac1_eq (c : Dev nD) (t : Fin cfg0.N) (d : Vec F S32x512 .f32) (h : t.val % 18 ≠ 0 → d = (carry m c t.val).2.1) :
    tac1 (grid0.coords t) (iblk m c 0 t) (iblk m c 4 t) d = tacAt m c t := by
  unfold tacAt tac1 tac0
  by_cases h0 : cond0_0 (grid0.coords t)
  · rw [if_pos h0, if_pos h0]
  · rw [if_neg h0, if_neg h0, h fun e => h0 ((hcond0_0 t).mpr e)]

theorem xat1_eq (c : Dev nD) (t : Fin cfg0.N) (d : Vec F S96x512 .bf16) (h : t.val % 18 ≠ 0 → d = (carry m c t.val).2.2) :
    xat1 (grid0.coords t) (iblk m c 6 t) (iblk m c 1 t) d = xatAt m c t := by
  unfold xatAt xat1
  by_cases h0 : cond0_0 (grid0.coords t)
  · rw [if_pos h0, if_pos h0]
  · rw [if_neg h0, if_neg h0, h fun e => h0 ((hcond0_0 t).mpr e)]

/-- The invariant between points: the carried scratch at what the points before left (away from the start of a
    row block), the product's operand at anything. -/
def PhiS (c : Dev nD) (n : ℕ) : sProp 𝕄 :=
  iprop(iprop((∃ d, iprop(⌜n % 18 ≠ 0 → d = (carry m c n).1⌝ ∗ owns (c : Thread nD τ) scM0_0 fullShare d))
    ∗ (∃ d, iprop(⌜n % 18 ≠ 0 → d = (carry m c n).2.1⌝ ∗ owns (c : Thread nD τ) scM0_1 fullShare d))
    ∗ (∃ d, owns (c : Thread nD τ) scM0_2 fullShare d)
    ∗ (∃ d, iprop(⌜n % 18 ≠ 0 → d = (carry m c n).2.2⌝ ∗ owns (c : Thread nD τ) scM0_3 fullShare d))) ∗ (∃ r, prngReg c r))

/-! ## The proof data -/

/-- What the body leaves in each window's buffer, of what it finds: an input as it is; the row block's outputs at the
    last reduction step; the gradient's columns of the point. -/
def afterR (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, _, Y, X => X = Y
  | ⟨5, _⟩, _, Y, X => X = Y
  | ⟨6, _⟩, _, Y, X => X = Y
  | ⟨7, _⟩, t, Y, X => t.val % 18 = 17 → X = dxOut (dxF (iblk m c 1 t) (iblk m c 5 t) (accAt m c t) (tacAt m c t)) Y 14
  | ⟨8, _⟩, t, Y, X => t.val % 18 = 17 → X = codesF (iblk m c 1 t) (iblk m c 5 t) (accAt m c t) (tacAt m c t) Y
  | ⟨9, _⟩, t, Y, X => t.val % 18 = 17 → X = scaleF (iblk m c 1 t) (iblk m c 5 t) (accAt m c t) (tacAt m c t)
  | ⟨10, _⟩, t, Y, X => t.val % 18 = 17 → X = k0_pay9 (iblk m c 1 t) (tacAt m c t)
  | ⟨11, _⟩, t, Y, X => X = db1 (grid0.coords t) (iblk m c 0 t) (xatAt m c t) Y
  | ⟨_ + 12, h⟩, _, _, _ => absurd h (Nat.not_lt_of_ge (Nat.le_add_left _ _))

/-- The proof data of the pipeline. -/
def rdat (c : Dev nD) : Pipeline.RDat τ (Elt F) Unit ℕ (UR sig nD τ) ℕ cfg0 c where
  A w := V m c (Pipeline.arrRef spec0 w)
  after := afterR m c
  Φ n := PhiS m c n.val
  q _ := fullShare
  owed _ := 0

theorem A_eq (c : Dev nD) (w : Fin cfg0.W) : (rdat m c).A w = V m c (Pipeline.arrRef spec0 w) := by dsimp only [rdat]

theorem found0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold Pipeline.RDat.fetched Pipeline.RDat.blockOf iblk; rw [A_eq]; try rfl
theorem found1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold Pipeline.RDat.fetched Pipeline.RDat.blockOf iblk; rw [A_eq]; try rfl
theorem found2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold Pipeline.RDat.fetched Pipeline.RDat.blockOf iblk; rw [A_eq]; try rfl
theorem found3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold Pipeline.RDat.fetched Pipeline.RDat.blockOf iblk; rw [A_eq]; try rfl
theorem found4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold Pipeline.RDat.fetched Pipeline.RDat.blockOf iblk; rw [A_eq]; try rfl
theorem found5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold Pipeline.RDat.fetched Pipeline.RDat.blockOf iblk; rw [A_eq]; try rfl
theorem found6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold Pipeline.RDat.fetched Pipeline.RDat.blockOf iblk; rw [A_eq]; try rfl

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11))

def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, iprop(⌜(rdat m c).after 0 t (Y 0) X⌝ ∗ owns (c : Thread nD τ) (ms0_0 t) fullShare X))
    ∗ (∃ X, iprop(⌜(rdat m c).after 1 t (Y 1) X⌝ ∗ owns (c : Thread nD τ) (ms0_1 t) fullShare X))
    ∗ (∃ X, iprop(⌜(rdat m c).after 2 t (Y 2) X⌝ ∗ owns (c : Thread nD τ) (ms0_2 t) fullShare X))
    ∗ (∃ X, iprop(⌜(rdat m c).after 3 t (Y 3) X⌝ ∗ owns (c : Thread nD τ) (ms0_3 t) fullShare X))
    ∗ (∃ X, iprop(⌜(rdat m c).after 4 t (Y 4) X⌝ ∗ owns (c : Thread nD τ) (ms0_4 t) fullShare X))
    ∗ (∃ X, iprop(⌜(rdat m c).after 5 t (Y 5) X⌝ ∗ owns (c : Thread nD τ) (ms0_5 t) fullShare X))
    ∗ (∃ X, iprop(⌜(rdat m c).after 6 t (Y 6) X⌝ ∗ owns (c : Thread nD τ) (ms0_6 t) fullShare X))
    ∗ (∃ X, iprop(⌜(rdat m c).after 7 t (Y 7) X⌝ ∗ owns (c : Thread nD τ) (ms0_7 t) fullShare X))
    ∗ (∃ X, iprop(⌜(rdat m c).after 8 t (Y 8) X⌝ ∗ owns (c : Thread nD τ) (ms0_8 t) fullShare X))
    ∗ (∃ X, iprop(⌜(rdat m c).after 9 t (Y 9) X⌝ ∗ owns (c : Thread nD τ) (ms0_9 t) fullShare X))
    ∗ (∃ X, iprop(⌜(rdat m c).after 10 t (Y 10) X⌝ ∗ owns (c : Thread nD τ) (ms0_10 t) fullShare X))
    ∗ (∃ X, iprop(⌜(rdat m c).after 11 t (Y 11) X⌝ ∗ owns (c : Thread nD τ) (ms0_11 t) fullShare X)))

set_option maxHeartbeats 4000000 in
/-- The body at any point, from the proof data's contents to the proof data's. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  have hN : t.val < 432 := lt_of_lt_of_eq t.isLt (show cfg0.N = 432 from N_0)
  have h12 : cond0_2 (grid0.coords t) ↔ ¬cond0_1 (grid0.coords t) := by rw [hcond0_2 t, hcond0_1 t]; omega
  have h03 : ¬(cond0_0 (grid0.coords t) ∧ cond0_3 (grid0.coords t)) := by rw [hcond0_0 t, hcond0_3 t]; omega
  rw [show (rdat m c).owesAt () t.succ = (rdat m c).owesAt () t.castSucc from rfl,
    show (rdat m c).Φ t.castSucc = PhiS m c t.val from rfl, show (rdat m c).Φ t.succ = PhiS m c (t.val + 1) from rfl]
  unfold PhiS
  rw [carry_succ]
  rw [found0 m c t (Y 0) (hY 0)]
  rw [found1 m c t (Y 1) (hY 1)]
  rw [found2 m c t (Y 2) (hY 2)]
  rw [found3 m c t (Y 3) (hY 3)]
  rw [found4 m c t (Y 4) (hY 4)]
  rw [found5 m c t (Y 5) (hY 5)]
  rw [found6 m c t (Y 6) (hY 6)]
  iintro ⟨⟨⟨⟨%d0, %hd0, S0⟩, ⟨%d1, %hd1, S1⟩, ⟨%d2, S2⟩, ⟨%d3, %hd3, S3⟩⟩, Hg⟩, Ho, H0, H1, H2, H3, H4, H5, H6, H7, H8, H9, H10, H11⟩
  iapply (runAll c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) h12 h03 (iblk m c 0 t) (iblk m c 1 t) (iblk m c 2 t) (iblk m c 3 t) (iblk m c 4 t) (iblk m c 5 t) (iblk m c 6 t) (Y 7) (Y 8) (Y 9) (Y 10) (Y 11) d0 d1 d2 d3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  rw [acc1_eq m c t d0 hd0, tac1_eq m c t d1 hd1, xat1_eq m c t d3 hd3]
  iintro ⟨H0, H1, H2, H3, H4, H5, H6, H7, H8, H9, H10, H11, S0, S1, S2, S3⟩
  isplitl [S0 S1 S2 S3 Hg]
  · isplitl [S0 S1 S2 S3]
    · isplitl [S0]
      · iexists _; isplitr; swap; · iexact S0
        ipureintro
        intro h
        rw [if_neg (fun e => by have := (hcond0_3 t).mp e; omega)]
      isplitl [S1]
      · iexists _; isplitr; swap; · iexact S1
        ipureintro; intro _; rfl
      isplitl [S2]
      · iexists _; iexact S2
      iexists _; isplitr; swap; · iexact S3
      ipureintro; intro _; rfl
    iexact Hg
  isplitl [Ho]
  · iexact Ho
  isplitl [H0]
  · iexists _; isplitr; swap; · iexact H0
    ipureintro
    exact (rfl : iblk m c 0 t = iblk m c 0 t)
  isplitl [H1]
  · iexists _; isplitr; swap; · iexact H1
    ipureintro
    exact (rfl : iblk m c 1 t = iblk m c 1 t)
  isplitl [H2]
  · iexists _; isplitr; swap; · iexact H2
    ipureintro
    exact (rfl : iblk m c 2 t = iblk m c 2 t)
  isplitl [H3]
  · iexists _; isplitr; swap; · iexact H3
    ipureintro
    exact (rfl : iblk m c 3 t = iblk m c 3 t)
  isplitl [H4]
  · iexists _; isplitr; swap; · iexact H4
    ipureintro
    exact (rfl : iblk m c 4 t = iblk m c 4 t)
  isplitl [H5]
  · iexists _; isplitr; swap; · iexact H5
    ipureintro
    exact (rfl : iblk m c 5 t = iblk m c 5 t)
  isplitl [H6]
  · iexists _; isplitr; swap; · iexact H6
    ipureintro
    exact (rfl : iblk m c 6 t = iblk m c 6 t)
  isplitl [H7]
  · iexists _; isplitr; swap; · iexact H7
    ipureintro
    exact fun h => if_pos ((hcond0_3 t).mpr h)
  isplitl [H8]
  · iexists _; isplitr; swap; · iexact H8
    ipureintro
    exact fun h => if_pos ((hcond0_3 t).mpr h)
  isplitl [H9]
  · iexists _; isplitr; swap; · iexact H9
    ipureintro
    exact fun h => if_pos ((hcond0_3 t).mpr h)
  isplitl [H10]
  · iexists _; isplitr; swap; · iexact H10
    ipureintro
    exact fun h => if_pos ((hcond0_3 t).mpr h)
  iexists _; isplitr; swap; · iexact H11
  ipureintro
  rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem hin (c : Dev nD) : Pipeline.ΦA spec0 c ⊢ (rdat m c).Φ 0 := by
  rw [show (rdat m c).Φ 0 = PhiS m c 0 from rfl, PhiA0_eq]
  unfold PhiS
  iintro ⟨⟨⟨%d0, S0⟩, ⟨%d1, S1⟩, S2, ⟨%d3, S3⟩⟩, Hg⟩
  isplitl [S0 S1 S2 S3]
  · isplitl [S0]
    · iexists _; isplitr; swap; · iexact S0
      ipureintro; exact fun h => absurd rfl h
    isplitl [S1]
    · iexists _; isplitr; swap; · iexact S1
      ipureintro; exact fun h => absurd rfl h
    isplitl [S2]
    · iexact S2
    iexists _; isplitr; swap; · iexact S3
    ipureintro; exact fun h => absurd rfl h
  iexact Hg

theorem hout (c : Dev nD) : (rdat m c).Φ (Fin.last cfg0.N) ⊢ Pipeline.ΦA spec0 c := by
  rw [show (rdat m c).Φ (Fin.last cfg0.N) = PhiS m c (Fin.last cfg0.N).val from rfl, PhiA0_eq]
  unfold PhiS
  iintro ⟨⟨⟨%d0, %h0, S0⟩, ⟨%d1, %h1, S1⟩, S2, ⟨%d3, %h3, S3⟩⟩, Hg⟩
  isplitl [S0 S1 S2 S3]
  · isplitl [S0]
    · iexists _; iexact S0
    isplitl [S1]
    · iexists _; iexact S1
    isplitl [S2]
    · iexact S2
    iexists _; iexact S3
  iexact Hg

/-! ## The run and the frame -/

set_option backward.isDefEq.respectTransparency.types false in
/-- Every run of the program ends, with the arrays at what the proof data says and every counter at zero. -/
theorem run_main_quiescent : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 4 rfl).trans ((A_eq m c 4).trans (V_main_arg5 m c)),
      (h.1.arr_in c 6 rfl).trans ((A_eq m c 6).trans (V_main_arg6 m c))⟩, h.2⟩) (run_main_quiescent m ρ)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaReferenceIdeal
public import proofs.«01_k».proof.Proof.Gen.XaReferenceIdeal.Skeleton
public import proofs.«01_k».proof.Proof.Gen.XaReferenceIdeal.Launch
public import proofs.«01_k».proof.Proof.Gen.XaReferenceIdeal.Points
public import proofs.«01_k».proof.Proof.Gen.XaReferenceIdeal.Frame
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaReferenceIdeal
public import proofs.«01_k».proof.Proof.Gen.DaReferenceIdeal.Skeleton
public import proofs.«01_k».proof.Proof.Gen.DaReferenceIdeal.Launch
public import proofs.«01_k».proof.Proof.Gen.DaReferenceIdeal.Points
public import proofs.«01_k».proof.Proof.Gen.DaReferenceIdeal.Frame
public import proofs.«01_k».proof.Proof.Gen.Pre_moderate
public import proofs.«01_k».proof.Proof.Gen.Pre_finite
public import proofs.«01_k».proof.Proof.Xa.Claim
public import proofs.«01_k».proof.Proof.Da.Claim
public import proofs.«01_k».proof.Proof.Main.Claim
public import proofs.«01_k».proof.Proof.MainK.Body
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Xa.Gen.facts, Cert.XaIdeal.Gen.facts, Cert.XaReferenceIdeal.Gen.facts, Cert.Da.Gen.facts, Cert.DaIdeal.Gen.facts, Cert.DaReferenceIdeal.Gen.facts, Cert.Pre_moderate.Gen.facts, Cert.Pre_finite.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  fun m ρ _ => Cert.Xa.Gen.frame m ρ, fun m ρ _ => Cert.XaIdeal.Gen.frame m ρ, fun m ρ _ => Cert.XaReferenceIdeal.Gen.frame m ρ,
  fun m ρ _ => Cert.Da.Gen.frame m ρ, fun m ρ _ => Cert.DaIdeal.Gen.frame m ρ, fun m ρ _ => Cert.DaIdeal.Gen.frame m ρ,
  fun m ρ _ => Cert.DaReferenceIdeal.Gen.frame m ρ, fun m ρ _ => Cert.DaReferenceIdeal.Gen.frame m ρ,
  trivial, main_algebraic, trivial, xa_algebraic, trivial, da_algebraic⟩

end Cert.Proof

end
